-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2048x2x128 Cert.KernelIdeal.S2048x1x128
  ∧ IdealRules.bf16_pair.BufferStatement Cert.KernelIdeal.S1024x2x128 Cert.KernelIdeal.S1024x1x128
  ∧ IdealRules.bf16_pair.PackStatement Cert.KernelIdeal.S256x128
  ∧ IdealRules.bf16_pair.Statement Cert.KernelIdeal.S256x2x128 Cert.KernelIdeal.S256x1x128
  ∧ IdealRules.bf16_pair.Statement Cert.KernelIdeal.S2048x2x128 Cert.KernelIdeal.S2048x1x128
  ∧ IdealRules.bf16_pair.Statement Cert.KernelIdeal.S4096x128 Cert.KernelIdeal.S2048x128
  ∧ IdealRules.bf16_pair.Statement Cert.KernelIdeal.S1024x2x128 Cert.KernelIdeal.S1024x1x128
  ∧ IdealRules.bf16_pair.Statement Cert.KernelIdeal.S2048x128 Cert.KernelIdeal.S1024x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64_0) = v0 c
          ∧ r.2.mem ((c.tc : Thread Cert.ReferenceIdeal.nD Cert.ReferenceIdeal.τ).loc Cert.ReferenceIdeal.main_v64_1) = v1 c
          ∧ r.2.mem ((c.tc : Thread Cert.ReferenceIdeal.nD Cert.ReferenceIdeal.τ).loc Cert.ReferenceIdeal.main_v64_2) = v2 c
          ∧ r.2.mem ((c.tc : Thread Cert.ReferenceIdeal.nD Cert.ReferenceIdeal.τ).loc Cert.ReferenceIdeal.main_v64_3) = v3 c
          ∧ r.2.mem ((c.tc : Thread Cert.ReferenceIdeal.nD Cert.ReferenceIdeal.τ).loc Cert.ReferenceIdeal.main_v64_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4608 : Shape := ⟨3, ![2, 512, 4608]⟩
abbrev S4608 : Shape := ⟨1, ![4608]⟩
abbrev S2x512 : Shape := ⟨2, ![2, 512]⟩
abbrev S4608x4096 : Shape := ⟨2, ![4608, 4096]⟩
abbrev S4096 : Shape := ⟨1, ![4096]⟩
abbrev S64 : Shape := ⟨1, ![64]⟩
abbrev S_ : Shape := ⟨0, ![]⟩
abbrev S1024x4608 : Shape := ⟨2, ![1024, 4608]⟩
abbrev S1x4608 : Shape := ⟨2, ![1, 4608]⟩
abbrev S64x1 : Shape := ⟨2, ![64, 1]⟩
abbrev S1x4096 : Shape := ⟨2, ![1, 4096]⟩
abbrev S16384x128 : Shape := ⟨2, ![16384, 128]⟩
abbrev S8192x128 : Shape := ⟨2, ![8192, 128]⟩
abbrev S1024x1 : Shape := ⟨2, ![1024, 1]⟩
abbrev S256x4608 : Shape := ⟨2, ![256, 4608]⟩
abbrev S4096x128 : Shape := ⟨2, ![4096, 128]⟩
abbrev S2048x128 : Shape := ⟨2, ![2048, 128]⟩
abbrev S256x1 : Shape := ⟨2, ![256, 1]⟩
abbrev S256x128 : Shape := ⟨2, ![256, 128]⟩
abbrev S1024x128 : Shape := ⟨2, ![1024, 128]⟩
abbrev S1x512 : Shape := ⟨2, ![1, 512]⟩
abbrev S64x512 : Shape := ⟨2, ![64, 512]⟩
abbrev S128x512 : Shape := ⟨2, ![128, 512]⟩
abbrev S512x128 : Shape := ⟨2, ![512, 128]⟩
abbrev S32x4608 : Shape := ⟨2, ![32, 4608]⟩
abbrev S32 : Shape := ⟨1, ![32]⟩
abbrev S32x1 : Shape := ⟨2, ![32, 1]⟩
abbrev S32x128 : Shape := ⟨2, ![32, 128]⟩
abbrev S4608x512 : Shape := ⟨2, ![4608, 512]⟩
abbrev S256x512 : Shape := ⟨2, ![256, 512]⟩
abbrev S1x128 : Shape := ⟨2, ![1, 128]⟩

abbrev nBuf : Space → Nat
  | .hbm => 28
  | .vmem => 23
  | .smem => 0
  | _ => 0

abbrev bufTy : (tb : Table) → Fin (tcTables nBuf tb) → BufTy
  | .hbm, ⟨0, _⟩ => ⟨S2x512x4608, .bf16⟩
  | .hbm, ⟨1, _⟩ => ⟨S4608, .f32⟩
  | .hbm, ⟨2, _⟩ => ⟨S2x512, .i32⟩
  | .hbm, ⟨3, _⟩ => ⟨S4608x4096, .fp8e4m3⟩
  | .hbm, ⟨4, _⟩ => ⟨S4096, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1024x4608, .bf16⟩
  | .hbm, ⟨20, _⟩ => ⟨S1x4608, .f32⟩
  | .hbm, ⟨21, _⟩ => ⟨S64x1, .f32⟩
  | .hbm, ⟨22, _⟩ => ⟨S1x4096, .f32⟩
  | .hbm, ⟨23, _⟩ => ⟨S16384x128, .bf16⟩
  | .hbm, ⟨24, _⟩ => ⟨S8192x128, .bf16⟩
  | .hbm, ⟨25, _⟩ => ⟨S8192x128, .bf16⟩
  | .hbm, ⟨26, _⟩ => ⟨S1024x4608, .fp8e4m3⟩
  | .hbm, ⟨27, _⟩ => ⟨S1024x1, .f32⟩
  | .local _ .vmem, ⟨0, _⟩ => ⟨S256x4608, .bf16⟩
  | .local _ .vmem, ⟨1, _⟩ => ⟨S256x4608, .bf16⟩
  | .local _ .vmem, ⟨2, _⟩ => ⟨S1x4608, .f32⟩
  | .local _ .vmem, ⟨3, _⟩ => ⟨S2x512, .i32⟩
  | .local _ .vmem, ⟨4, _⟩ => ⟨S64x1, .f32⟩
  | .local _ .vmem, ⟨5, _⟩ => ⟨S4608x4096, .fp8e4m3⟩
  | .local _ .vmem, ⟨6, _⟩ => ⟨S1x4096, .f32⟩
  | .local _ .vmem, ⟨7, _⟩ => ⟨S4096x128, .bf16⟩
  | .local _ .vmem, ⟨8, _⟩ => ⟨S4096x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S256x4608, .fp8e4m3⟩
  | .local _ .vmem, ⟨14, _⟩ => ⟨S256x4608, .fp8e4m3⟩
  | .local _ .vmem, ⟨15, _⟩ => ⟨S256x1, .f32⟩
  | .local _ .vmem, ⟨16, _⟩ => ⟨S256x1, .f32⟩
  | .local _ .vmem, ⟨17, _⟩ => ⟨S256x128, .f32⟩
  | .local _ .vmem, ⟨18, _⟩ => ⟨S1024x128, .f32⟩
  | .local _ .vmem, ⟨19, _⟩ => ⟨S1024x128, .f32⟩
  | .local _ .vmem, ⟨20, _⟩ => ⟨S2048x128, .i32⟩
  | .local _ .vmem, ⟨21, _⟩ => ⟨S1024x128, .i32⟩
  | .local _ .vmem, ⟨22, _⟩ => ⟨S1024x128, .i32⟩
  | _, _ => ⟨S2x512x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![4], ![false]⟩

def k0_mult1 (i : grid0.Coords) : BitVec 32 :=
  let arg0 : BitVec 32 := BitVec.ofNat 32 (i 0).val
  let c256_i32 : BitVec 32 := 256#32
  let v1139 : BitVec 32 := Scalar.muli arg0 c256_i32
  v1139
def k0_off1 (i : grid0.Coords) : Fin 2 → Nat :=
  let arg0 : BitVec 32 := BitVec.ofNat 32 (i 0).val
  let c256_i32 : BitVec 32 := 256#32
  let v1139 : BitVec 32 := Scalar.muli arg0 c256_i32
  let v1140 : BitVec 32 := v1139
  let v1152 : Index := Scalar.indexCast v1140
  let c0_444 : Index := 0#32
  ![v1152.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4608x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4608 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S2x512x4608 : Shape := ⟨3, ![2, 512, 4608]⟩
abbrev S4608 : Shape := ⟨1, ![4608]⟩
abbrev S2x512 : Shape := ⟨2, ![2, 512]⟩
abbrev S4608x4096 : Shape := ⟨2, ![4608, 4096]⟩
abbrev S4096 : Shape := ⟨1, ![4096]⟩
abbrev S64 : Shape := ⟨1, ![64]⟩
abbrev S_ : Shape := ⟨0, ![]⟩
abbrev S1024x4608 : Shape := ⟨2, ![1024, 4608]⟩
abbrev S1x4608 : Shape := ⟨2, ![1, 4608]⟩
abbrev S64x1 : Shape := ⟨2, ![64, 1]⟩
abbrev S1x4096 : Shape := ⟨2, ![1, 4096]⟩
abbrev S16384x128 : Shape := ⟨2, ![16384, 128]⟩
abbrev S8192x128 : Shape := ⟨2, ![8192, 128]⟩
abbrev S1024x1 : Shape := ⟨2, ![1024, 1]⟩
abbrev S256x4608 : Shape := ⟨2, ![256, 4608]⟩
abbrev S4096x128 : Shape := ⟨2, ![4096, 128]⟩
abbrev S2048x128 : Shape := ⟨2, ![2048, 128]⟩
abbrev S256x1 : Shape := ⟨2, ![256, 1]⟩
abbrev S256x128 : Shape := ⟨2, ![256, 128]⟩
abbrev S1024x128 : Shape := ⟨2, ![1024, 128]⟩
abbrev S2048x2x128 : Shape := ⟨3, ![2048, 2, 128]⟩
abbrev S2048x1x128 : Shape := ⟨3, ![2048, 1, 128]⟩
abbrev S1024x2x128 : Shape := ⟨3, ![1024, 2, 128]⟩
abbrev S1024x1x128 : Shape := ⟨3, ![1024, 1, 128]⟩
abbrev S1x512 : Shape := ⟨2, ![1, 512]⟩
abbrev S64x512 : Shape := ⟨2, ![64, 512]⟩
abbrev S128x512 : Shape := ⟨2, ![128, 512]⟩
abbrev S512x128 : Shape := ⟨2, ![512, 128]⟩
abbrev S32x4608 : Shape := ⟨2, ![32, 4608]⟩
abbrev S32 : Shape := ⟨1, ![32]⟩
abbrev S32x1 : Shape := ⟨2, ![32, 1]⟩
abbrev S32x128 : Shape := ⟨2, ![32, 128]⟩
abbrev S4608x512 : Shape := ⟨2, ![4608, 512]⟩
abbrev S256x512 : Shape := ⟨2, ![256, 512]⟩
abbrev S1x128 : Shape := ⟨2, ![1, 128]⟩
abbrev S256x2x128 : Shape := ⟨3, ![256, 2, 128]⟩
abbrev S256x1x128 : Shape := ⟨3, ![256, 1, 128]⟩

abbrev nBuf : Space → Nat
  | .hbm => 28
  | .vmem => 23
  | .smem => 0
  | _ => 0

abbrev bufTy : (tb : Table) → Fin (tcTables nBuf tb) → BufTy
  | .hbm, ⟨0, _⟩ => ⟨S2x512x4608, .bf16⟩
  | .hbm, ⟨1, _⟩ => ⟨S4608, .f32⟩
  | .hbm, ⟨2, _⟩ => ⟨S2x512, .i32⟩
  | .hbm, ⟨3, _⟩ => ⟨S4608x4096, .fp8e4m3⟩
  | .hbm, ⟨4, _⟩ => ⟨S4096, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1024x4608, .bf16⟩
  | .hbm, ⟨20, _⟩ => ⟨S1x4608, .f32⟩
  | .hbm, ⟨21, _⟩ => ⟨S64x1, .f32⟩
  | .hbm, ⟨22, _⟩ => ⟨S1x4096, .f32⟩
  | .hbm, ⟨23, _⟩ => ⟨S16384x128, .bf16⟩
  | .hbm, ⟨24, _⟩ => ⟨S8192x128, .bf16⟩
  | .hbm, ⟨25, _⟩ => ⟨S8192x128, .bf16⟩
  | .hbm, ⟨26, _⟩ => ⟨S1024x4608, .fp8e4m3⟩
  | .hbm, ⟨27, _⟩ => ⟨S1024x1, .f32⟩
  | .local _ .vmem, ⟨0, _⟩ => ⟨S256x4608, .bf16⟩
  | .local _ .vmem, ⟨1, _⟩ => ⟨S256x4608, .bf16⟩
  | .local _ .vmem, ⟨2, _⟩ => ⟨S1x4608, .f32⟩
  | .local _ .vmem, ⟨3, _⟩ => ⟨S2x512, .i32⟩
  | .local _ .vmem, ⟨4, _⟩ => ⟨S64x1, .f32⟩
  | .local _ .vmem, ⟨5, _⟩ => ⟨S4608x4096, .fp8e4m3⟩
  | .local _ .vmem, ⟨6, _⟩ => ⟨S1x4096, .f32⟩
  | .local _ .vmem, ⟨7, _⟩ => ⟨S4096x128, .bf16⟩
  | .local _ .vmem, ⟨8, _⟩ => ⟨S4096x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S256x4608, .fp8e4m3⟩
  | .local _ .vmem, ⟨14, _⟩ => ⟨S256x4608, .fp8e4m3⟩
  | .local _ .vmem, ⟨15, _⟩ => ⟨S256x1, .f32⟩
  | .local _ .vmem, ⟨16, _⟩ => ⟨S256x1, .f32⟩
  | .local _ .vmem, ⟨17, _⟩ => ⟨S256x128, .f32⟩
  | .local _ .vmem, ⟨18, _⟩ => ⟨S1024x128, .f32⟩
  | .local _ .vmem, ⟨19, _⟩ => ⟨S1024x128, .f32⟩
  | .local _ .vmem, ⟨20, _⟩ => ⟨S2048x2x128, .bf16⟩
  | .local _ .vmem, ⟨21, _⟩ => ⟨S1024x2x128, .bf16⟩
  | .local _ .vmem, ⟨22, _⟩ => ⟨S1024x2x128, .bf16⟩
  | _, _ => ⟨S2x512x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c256_i32 : BitVec 32 := 256#32
  let v1139 : BitVec 32 := Scalar.muli arg0 c256_i32
  v1139
def k0_off1 (i : grid0.Coords) : Fin 2 → Nat :=
  let arg0 : BitVec 32 := BitVec.ofNat 32 (i 0).val
  let c256_i32 : BitVec 32 := 256#32
  let v1139 : BitVec 32 := Scalar.muli arg0 c256_i32
  let v1140 : BitVec 32 := v1139
  let v1152 : Index := Scalar.indexCast v1140
  let c0_444 : Index := 0#32
  ![v1152.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4608x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4608 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x512x4608 : Shape := ⟨3, ![2, 512, 4608]⟩
abbrev S4608 : Shape := ⟨1, ![4608]⟩
abbrev S2x512 : Shape := ⟨2, ![2, 512]⟩
abbrev S4608x4096 : Shape := ⟨2, ![4608, 4096]⟩
abbrev S4096 : Shape := ⟨1, ![4096]⟩
abbrev S_ : Shape := ⟨0, ![]⟩
abbrev S2x512x1 : Shape := ⟨3, ![2, 512, 1]⟩
abbrev S1x1x4608 : Shape := ⟨3, ![1, 1, 4608]⟩
abbrev S252 : Shape := ⟨1, ![252]⟩
abbrev S1x1x252 : Shape := ⟨3, ![1, 1, 252]⟩
abbrev S2x512x252 : Shape := ⟨3, ![2, 512, 252]⟩
abbrev S64 : Shape := ⟨1, ![64]⟩
abbrev S1x1x64 : Shape := ⟨3, ![1, 1, 64]⟩
abbrev S2x512x64 : Shape := ⟨3, ![2, 512, 64]⟩
abbrev S1024x4608 : Shape := ⟨2, ![1024, 4608]⟩
abbrev S1024x1 : Shape := ⟨2, ![1024, 1]⟩
abbrev S1x4096 : Shape := ⟨2, ![1, 4096]⟩
abbrev S1024x64 : Shape := ⟨2, ![1024, 64]⟩
abbrev S16384x128 : Shape := ⟨2, ![16384, 128]⟩
abbrev S8192x128 : Shape := ⟨2, ![8192, 128]⟩
abbrev S1024x4096 : Shape := ⟨2, ![1024, 4096]⟩
abbrev S1024x32x128 : Shape := ⟨3, ![1024, 32, 128]⟩
abbrev S1024x24x128 : Shape := ⟨3, ![1024, 24, 128]⟩
abbrev S1024x24x64 : Shape := ⟨3, ![1024, 24, 64]⟩
abbrev S1024x1x64 : Shape := ⟨3, ![1024, 1, 64]⟩
abbrev S1024x16x128 : Shape := ⟨3, ![1024, 16, 128]⟩
abbrev S1024x8x128 : Shape := ⟨3, ![1024, 8, 128]⟩

abbrev nBuf : Space → Nat
  | .hbm => 96
  | .vmem => 12
  | .smem => 0
  | _ => 0

abbrev bufTy : (tb : Table) → Fin (tcTables nBuf tb) → BufTy
  | .hbm, ⟨0, _⟩ => ⟨S2x512x4608, .bf16⟩
  | .hbm, ⟨1, _⟩ => ⟨S4608, .f32⟩
  | .hbm, ⟨2, _⟩ => ⟨S2x512, .i32⟩
  | .hbm, ⟨3, _⟩ => ⟨S4608x4096, .fp8e4m3⟩
  | .hbm, ⟨4, _⟩ => ⟨S4096, .f32⟩
  | .hbm, ⟨5, _⟩ => ⟨S2x512x4608, .f32⟩
  | .hbm, ⟨6, _⟩ => ⟨S2x512x4608, .f32⟩
  | .hbm, ⟨7, _⟩ => ⟨S_, .f32⟩
  | .hbm, ⟨8, _⟩ => ⟨S2x512, .f32⟩
  | .hbm, ⟨9, _⟩ => ⟨S2x512x1, .f32⟩
  | .hbm, ⟨10, _⟩ => ⟨S_, .f32⟩
  | .hbm, ⟨11, _⟩ => ⟨S2x512x1, .f32⟩
  | .hbm, ⟨12, _⟩ => ⟨S2x512x1, .f32⟩
  | .hbm, ⟨13, _⟩ => ⟨S_, .f32⟩
  | .hbm, ⟨14, _⟩ => ⟨S2x512x1, .f32⟩
  | .hbm, ⟨15, _⟩ => ⟨S2x512x1, .f32⟩
  | .hbm, ⟨16, _⟩ => ⟨S2x512x1, .f32⟩
  | .hbm, ⟨17, _⟩ => ⟨S2x512x4608, .f32⟩
  | .hbm, ⟨18, _⟩ => ⟨S2x512x4608, .f32⟩
  | .hbm, ⟨19, _⟩ => ⟨S1x1x4608, .f32⟩
  | .hbm, ⟨20, _⟩ => ⟨S2x512x4608, .f32⟩
  | .hbm, ⟨21, _⟩ => ⟨S2x512x4608, .f32⟩
  | .hbm, ⟨22, _⟩ => ⟨S2x512x4608, .f32⟩
  | .hbm, ⟨23, _⟩ => ⟨S_, .f32⟩
  | .hbm, ⟨24, _⟩ => ⟨S2x512, .f32⟩
  | .hbm, ⟨25, _⟩ => ⟨S2x512x1, .f32⟩
  | .hbm, ⟨26, _⟩ => ⟨S_, .f32⟩
  | .hbm, ⟨27, _⟩ => ⟨S2x512x1, .f32⟩
  | .hbm, ⟨28, _⟩ => ⟨S2x512x1, .f32⟩
  | .hbm, ⟨29, _⟩ => ⟨S252, .i32⟩
  | .hbm, ⟨30, _⟩ => ⟨S_, .i32⟩
  | .hbm, ⟨31, _⟩ => ⟨S252, .i32⟩
  | .hbm, ⟨32, _⟩ => ⟨S252, .i32⟩
  | .hbm, ⟨33, _⟩ => ⟨S252, .f32⟩
  | .hbm, ⟨34, _⟩ => ⟨S_, .f32⟩
  | .hbm, ⟨35, _⟩ => ⟨S252, .f32⟩
  | .hbm, ⟨36, _⟩ => ⟨S252, .f32⟩
  | .hbm, ⟨37, _⟩ => ⟨S1x1x252, .f32⟩
  | .hbm, ⟨38, _⟩ => ⟨S2x512x252, .f32⟩
  | .hbm, ⟨39, _⟩ => ⟨S2x512x252, .f32⟩
  | .hbm, ⟨40, _⟩ => ⟨S2x512x252, .i1⟩
  | .hbm, ⟨41, _⟩ => ⟨S_, .f32⟩
  | .hbm, ⟨42, _⟩ => ⟨S_, .f32⟩
  | .hbm, ⟨43, _⟩ => ⟨S2x512x252, .f32⟩
  | .hbm, ⟨44, _⟩ => ⟨S2x512x252, .f32⟩
  | .hbm, ⟨45, _⟩ => ⟨S2x512x252, .f32⟩
  | .hbm, ⟨46, _⟩ => ⟨S_, .f32⟩
  | .hbm, ⟨47, _⟩ => ⟨S2x512, .f32⟩
  | .hbm, ⟨48, _⟩ => ⟨S2x512x1, .f32⟩
  | .hbm, ⟨49, _⟩ => ⟨S_, .f32⟩
  | .hbm, ⟨50, _⟩ => ⟨S2x512x1, .f32⟩
  | .hbm, ⟨51, _⟩ => ⟨S2x512x1, .i1⟩
  | .hbm, ⟨52, _⟩ => ⟨S_, .f32⟩
  | .hbm, ⟨53, _⟩ => ⟨S2x512x1, .f32⟩
  | .hbm, ⟨54, _⟩ => ⟨S2x512x1, .i1⟩
  | .hbm, ⟨55, _⟩ => ⟨S2x512x1, .i1⟩
  | .hbm, ⟨56, _⟩ => ⟨S_, .f32⟩
  | .hbm, ⟨57, _⟩ => ⟨S_, .f32⟩
  | .hbm, ⟨58, _⟩ => ⟨S2x512x1, .f32⟩
  | .hbm, ⟨59, _⟩ => ⟨S2x512x1, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S2x512, .f32⟩
  | .hbm, ⟨75, _⟩ => ⟨S2x512x1, .f32⟩
  | .hbm, ⟨76, _⟩ => ⟨S1x1x64, .f32⟩
  | .hbm, ⟨77, _⟩ => ⟨S2x512x64, .f32⟩
  | .hbm, ⟨78, _⟩ => ⟨S2x512x64, .f32⟩
  | .hbm, ⟨79, _⟩ => ⟨S2x512x64, .f32⟩
  | .hbm, ⟨80, _⟩ => ⟨S1024x4608, .f32⟩
  | .hbm, ⟨81, _⟩ => ⟨S_, .f32⟩
  | .hbm, ⟨82, _⟩ => ⟨S2x512x1, .f32⟩
  | .hbm, ⟨83, _⟩ => ⟨S2x512x1, .f32⟩
  | .hbm, ⟨84, _⟩ => ⟨S1024x1, .f32⟩
  | .hbm, ⟨85, _⟩ => ⟨S1024x1, .f32⟩
  | .hbm, ⟨86, _⟩ => ⟨S1x4096, .f32⟩
  | .hbm, ⟨87, _⟩ => ⟨S2x512x64, .f32⟩
  | .hbm, ⟨88, _⟩ => ⟨S1024x64, .f32⟩
  | .hbm, ⟨89, _⟩ => ⟨S2x512x64, .f32⟩
  | .hbm, ⟨90, _⟩ => ⟨S1024x64, .f32⟩
  | .hbm, ⟨91, _⟩ => ⟨S16384x128, .bf16⟩
  | .hbm, ⟨92, _⟩ => ⟨S8192x128, .bf16⟩
  | .hbm, ⟨93, _⟩ => ⟨S8192x128, .bf16⟩
  | .hbm, ⟨94, _⟩ => ⟨S1024x4608, .fp8e4m3⟩
  | .hbm, ⟨95, _⟩ => ⟨S1024x1, .f32⟩
  | .local _ .vmem, ⟨0, _⟩ => ⟨S1024x4608, .f32⟩
  | .local _ .vmem, ⟨1, _⟩ => ⟨S1024x1, .f32⟩
  | .local _ .vmem, ⟨2, _⟩ => ⟨S1024x1, .f32⟩
  | .local _ .vmem, ⟨3, _⟩ => ⟨S4608x4096, .fp8e4m3⟩
  | .local _ .vmem, ⟨4, _⟩ => ⟨S1x4096, .f32⟩
  | .local _ .vmem, ⟨5, _⟩ => ⟨S1024x64, .f32⟩
  | .local _ .vmem, ⟨6, _⟩ => ⟨S1024x64, .f32⟩
  | .local _ .vmem, ⟨7, _⟩ => ⟨S16384x128, .bf16⟩
  | .local _ .vmem, ⟨8, _⟩ => ⟨S8192x128, .bf16⟩
  | .local _ .vmem, ⟨9, _⟩ => ⟨S8192x128, .bf16⟩
  | .local _ .vmem, ⟨10, _⟩ => ⟨S1024x4608, .fp8e4m3⟩
  | .local _ .vmem, ⟨11, _⟩ => ⟨S1024x1, .f32⟩
  | _, _ => ⟨S2x512x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64_0 : Ref sig .tc := ⟨.hbm, 91, rfl⟩
abbrev main_v64_1 : Ref sig .tc := ⟨.hbm, 92, rfl⟩
abbrev main_v64_2 : Ref sig .tc := ⟨.hbm, 93, rfl⟩
abbrev main_v64_3 : Ref sig .tc := ⟨.hbm, 94, rfl⟩
abbrev main_v64_4 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x4608 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Preserves.lean ====
/- The rewritings of packed bf16 words the idealized kernel rests on, one proof for each shape they occur at. -/
module

public import proofs.«01_k».proof.Defs
public import Idealize.ShloMosaic.Lib.Bf16Pair
public import Idealize.ShloMosaic.Lib.Bf16PairInverse

@[expose] public section

namespace Cert.Proof

open Cert.KernelIdeal Idealize.ShloMosaic

theorem preserves : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.statement _ _, IdealRules.bf16_pair.statement _ _,
    IdealRules.bf16_pair.statement _ _, IdealRules.bf16_pair.statement _ _⟩

end Cert.Proof
-- ==== Proof.ScaleMath.lean ====
/- The row scale. The kernel finds the exponent of `v` by a search over eight bits, largest first, comparing with the
   powers of two whose words are `n · 2²³`; the reference takes the least power of two above `v`. Both are the same
   extended real at every `v`, and the kernel's factor is the reciprocal of its scale. -/
module

public import Idealize.ShloMosaic.PureOps.Ideal
public import Idealize.ShloMosaic.PureOps.Ideal.Laws
public import Idealize.ShloMosaic.Lib.Pointwise

@[expose] public section

set_option maxRecDepth 16384

noncomputable section

namespace Cert.Spec

open Idealize.ShloMosaic

/-- What the word `n · 2²³` denotes. -/
def P (n : Nat) : EReal := Ideal.ofBits .f32 (IntOp.shli .vector (BitVec.ofNat 32 n) 23#32)

theorem word_fields : ∀ n : Fin 256,
    (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem ieee_word (b : BitVec 32) (n : Nat) (hs : b.extractLsb' 31 1 = 0#1) (he : (b.extractLsb' 23 8).toNat = n)
    (hf : (b.extractLsb' 0 23).toNat = 0) (h1 : 1 ≤ n) (h2 : n ≤ 254) :
    Ideal.ieee 8 23 b = (((2 : ℝ) ^ ((n : ℤ) - 127) : ℝ) : EReal) := by
  have h : ((2 : ℝ) ^ 23) * (2 : ℝ) ^ ((n : ℤ) - 127 - 23) = (2 : ℝ) ^ ((n : ℤ) - 127) := by
    rw [← zpow_natCast, ← zpow_add₀ (by norm_num : (2 : ℝ) ≠ 0)]
    congr 1
    push_cast
    ring
  have hn : ¬ n = 2 ^ 8 - 1 := by omega
  have hn' : ¬ n = 0 := by omega
  unfold Ideal.ieee
  simp only [Nat.reduceAdd, hs, he, hf, if_neg hn, if_neg hn']
  rw [← h]
  norm_num

theorem P_pow (n : Nat) (h1 : 1 ≤ n) (h2 : n ≤ 254) : P n = (((2 : ℝ) ^ ((n : ℤ) - 127) : ℝ) : EReal) := by
  obtain ⟨hs, he, hf⟩ := word_fields ⟨n, by omega⟩
  exact ieee_word _ n hs he hf h1 h2

theorem ieee_top (b : BitVec 32) (hs : b.extractLsb' 31 1 = 0#1) (he : (b.extractLsb' 23 8).toNat = 255)
    (hf : (b.extractLsb' 0 23).toNat = 0) : Ideal.ieee 8 23 b = ⊤ := by
  unfold Ideal.ieee
  simp only [Nat.reduceAdd, hs, he, hf]
  norm_num

theorem P_top : P 255 = ⊤ := by
  obtain ⟨hs, he, hf⟩ := word_fields ⟨255, by omega⟩
  exact ieee_top _ hs he hf

theorem P_mono {a b : Nat} (h1 : 1 ≤ a) (hab : a ≤ b) (h2 : b ≤ 255) : P a ≤ P b := by
  rcases Nat.lt_or_ge 254 b with hb | hb
  · rw [show b = 255 by omega, P_top]; exact le_top
  · rw [P_pow a h1 (by omega), P_pow b (by omega) hb]
    have hz : ((a : ℤ) - 127) ≤ (b : ℤ) - 127 := by omega
    exact EReal.coe_le_coe_iff.mpr (zpow_le_zpow_right₀ (by norm_num : (1 : ℝ) ≤ 2) hz)

theorem P_one : P 127 = 1 := by
  rw [P_pow 127 (by omega) (by omega)]; norm_num

/-- One step of the search, on natural numbers. -/
def stepN (v : EReal) (b w : Nat) : Nat := if P (w + b) ≤ v then w + b else w

/-- The same step on words, as the kernel takes it. -/
def stepW (v : EReal) (b w : BitVec 32) : BitVec 32 :=
  if Ideal.ofBits .f32 (IntOp.shli .vector (IntOp.addi w b) 23#32) ≤ v then IntOp.addi w b else w

theorem stepW_ofNat (v : EReal) (b w : Nat) : stepW v (BitVec.ofNat 32 b) (BitVec.ofNat 32 w) = BitVec.ofNat 32 (stepN v b w) := by
  have h : IntOp.addi (BitVec.ofNat 32 w) (BitVec.ofNat 32 b) = BitVec.ofNat 32 (w + b) := (BitVec.ofNat_add ..).symm
  unfold stepW stepN P
  rw [h]
  split <;> rfl

/-- What the search keeps: nothing found yet or a power at most `v`, and the power `2 b` further on is above `v`. -/
def Inv (v : EReal) (b w : Nat) : Prop := (w = 0 ∨ P w ≤ v) ∧ (w + b = 256 ∨ v < P (w + b)) ∧ w + b ≤ 256

theorem Inv_step (v : EReal) (b w : Nat) (h : Inv v (2 * b) w) : Inv v b (stepN v b w) := by
  obtain ⟨h1, h2, h3⟩ := h
  unfold stepN
  split
  · next hp => exact ⟨.inr hp, by rw [show w + b + b = w + 2 * b by omega]; exact h2, by omega⟩
  · next hp => exact ⟨h1, .inr (not_le.mp hp), by omega⟩

/-- The result of the search. -/
def expN (v : EReal) : Nat :=
  stepN v 1 (stepN v 2 (stepN v 4 (stepN v 8 (stepN v 16 (stepN v 32 (stepN v 64 (stepN v 128 0)))))))

def expW (v : EReal) : BitVec 32 :=
  stepW v 1#32 (stepW v 2#32 (stepW v 4#32 (stepW v 8#32 (stepW v 16#32 (stepW v 32#32 (stepW v 64#32 (stepW v 128#32 0#32)))))))

theorem expW_eq (v : EReal) : expW v = BitVec.ofNat 32 (expN v) := by
  unfold expW expN
  simp only [← stepW_ofNat]

theorem Inv_exp (v : EReal) : Inv v 1 (expN v) := by
  unfold expN
  refine Inv_step v 1 _ (Inv_step v 2 _ (Inv_step v 4 _ (Inv_step v 8 _ (Inv_step v 16 _ (Inv_step v 32 _
    (Inv_step v 64 _ (Inv_step v 128 _ ?_)))))))
  exact ⟨.inl rfl, .inl rfl, by omega⟩

theorem expN_le (v : EReal) : expN v ≤ 255 := by have := (Inv_exp v).2.2; omega

/-- The kernel's exponent: of an ordinary number the exponent plus one, 0 of anything else, 0 of an all-zero row. -/
def eW (a v : EReal) : BitVec 32 :=
  if a = 0 then 0#32
  else Scalar.select (IntOp.andi (IntOp.cmpi .sgt (expW v) 0#32) (IntOp.cmpi .slt (expW v) 255#32)) (IntOp.subi (expW v) 126#32) 0#32

def twoPow (e : BitVec 32) : EReal :=
  Ideal.ofBits .f32 (IntOp.shli .vector (IntOp.addi (IntOp.minsi 126#32 (IntOp.maxsi 4294967170#32 e)) 127#32) 23#32)

/-- The exponent's word of an ordinary number by the search's result. -/
def eOf (r : BitVec 32) : BitVec 32 :=
  Scalar.select (IntOp.andi (IntOp.cmpi .sgt r 0#32) (IntOp.cmpi .slt r 255#32)) (IntOp.subi r 126#32) 0#32

theorem words : ∀ r : Fin 256,
    IntOp.addi (IntOp.minsi 126#32 (IntOp.maxsi 4294967170#32 (eOf (BitVec.ofNat 32 r.val)))) 127#32
        = BitVec.ofNat 32 (if 1 ≤ r.val ∧ r.val ≤ 254 then min (r.val + 1) 253 else 127)
    ∧ IntOp.addi (IntOp.minsi 126#32 (IntOp.maxsi 4294967170#32 (IntOp.subi 0#32 (eOf (BitVec.ofNat 32 r.val))))) 127#32
        = BitVec.ofNat 32 (if 1 ≤ r.val ∧ r.val ≤ 254 then max (253 - r.val) 1 else 127) := by decide +kernel

/-- The place of the scale among the powers of two. -/
def sN (v : EReal) : Nat := if 1 ≤ expN v ∧ expN v ≤ 254 then min (expN v + 1) 253 else 127
def iN (v : EReal) : Nat := if 1 ≤ expN v ∧ expN v ≤ 254 then max (253 - expN v) 1 else 127

theorem expN_zero : expN 0 = 0 := by
  rcases (Inv_exp 0).1 with h | h
  · exact h
  · by_contra h0
    have hle := expN_le 0
    rcases Nat.lt_or_ge 254 (expN 0) with hb | hb
    · rw [show expN 0 = 255 by omega, P_top] at h
      exact absurd h (by simp)
    · rw [P_pow _ (by omega) hb] at h
      have : ((2 : ℝ) ^ ((expN 0 : ℤ) - 127)) ≤ 0 := by exact_mod_cast h
      exact absurd this (not_le.mpr (by positivity))

theorem kernel_scale (a v : EReal) (h : a = 0 → v = 0) : twoPow (eW a v) = P (sN v) := by
  have hw := (words ⟨expN v, by have := expN_le v; omega⟩).1
  simp only at hw
  unfold eW
  split
  · next h0 => rw [h h0, sN, expN_zero]; rfl
  · rw [expW_eq]; unfold twoPow P sN; rw [← hw]; rfl

theorem kernel_inv (a v : EReal) (h : a = 0 → v = 0) : twoPow (IntOp.subi 0#32 (eW a v)) = P (iN v) := by
  have hw := (words ⟨expN v, by have := expN_le v; omega⟩).2
  simp only at hw
  unfold eW
  split
  · next h0 => rw [h h0, iN, expN_zero]; rfl
  · rw [expW_eq]; unfold twoPow P iN; rw [← hw]; rfl

/-- The factor is the scale's reciprocal. -/
theorem inv_eq (v : EReal) : P (iN v) = Ideal.div 1 (P (sN v)) := by
  have hpos : ∀ z : ℤ, (((2 : ℝ) ^ z : ℝ) : EReal) ≠ 0 := fun z => by
    exact_mod_cast (zpow_ne_zero z (by norm_num : (2 : ℝ) ≠ 0))
  unfold iN sN
  split
  · next h =>
    rw [P_pow _ (by omega) (by omega), P_pow _ (by omega) (by omega), Ideal.div, if_neg (hpos _), one_mul, ← EReal.coe_inv,
      ← zpow_neg]
    congr 2
    push_cast
    omega
  · rw [P_one, Ideal.div, if_neg (by simp), one_mul]
    exact (by rw [← EReal.coe_one, ← EReal.coe_inv, inv_one] : (1 : EReal) = 1⁻¹)

/-- The reference's scale of `v`. -/
def refScale (v : EReal) : EReal :=
  if Ideal.ofBits .f32 0x00800000#32 ≤ v ∧ v < Ideal.ofBits .f32 0x7F800000#32 then
    Finset.univ.fold min (Ideal.ofBits .f32 0x7F800000#32) fun k : Fin 252 =>
      if v < (((2 : ℝ) ^ ((k.val : ℤ) - 125) : ℝ) : EReal) then (((2 : ℝ) ^ ((k.val : ℤ) - 125) : ℝ) : EReal)
      else Ideal.ofBits .f32 0x7E800000#32
  else Ideal.ofBits .f32 0x3F800000#32

theorem refScale_eq (v : EReal) : refScale v = P (sN v) := by
  have e1 : Ideal.ofBits .f32 0x00800000#32 = P 1 := rfl
  have e255 : Ideal.ofBits .f32 0x7F800000#32 = P 255 := rfl
  have e253 : Ideal.ofBits .f32 0x7E800000#32 = P 253 := rfl
  have e127 : Ideal.ofBits .f32 0x3F800000#32 = P 127 := rfl
  have epow : ∀ k : Fin 252, (((2 : ℝ) ^ ((k.val : ℤ) - 125) : ℝ) : EReal) = P (k.val + 2) := fun k => by
    rw [P_pow _ (by omega) (by omega)]; congr 2; push_cast; omega
  obtain ⟨i1, i2, i3⟩ := Inv_exp v
  have hle := expN_le v
  unfold refScale sN
  simp only [e1, e255, e253, e127, epow]
  by_cases hr : 1 ≤ expN v ∧ expN v ≤ 254
  · have hv : P (expN v) ≤ v := i1.resolve_left (by omega)
    have hv' : v < P (expN v + 1) := i2.resolve_left (by omega)
    rw [if_pos hr, if_pos ⟨(P_mono (by omega) hr.1 hle).trans hv, hv'.trans_le (P_mono (by omega) (by omega) le_rfl)⟩]
    apply le_antisymm
    · rw [Finset.fold_min_le]
      right
      rcases Nat.lt_or_ge 252 (expN v) with hb | hb
      · refine ⟨⟨251, by omega⟩, Finset.mem_univ _, ?_⟩
        rw [show min (expN v + 1) 253 = 253 by omega]
        split <;> exact le_rfl
      · refine ⟨⟨expN v - 1, by omega⟩, Finset.mem_univ _, ?_⟩
        simp only
        rw [show expN v - 1 + 2 = expN v + 1 by omega, if_pos hv', show min (expN v + 1) 253 = expN v + 1 by omega]
    · rw [Finset.le_fold_min]
      refine ⟨P_mono (by omega) (by omega) le_rfl, fun k _ => ?_⟩
      split
      · next hk =>
        refine P_mono (by omega) ?_ (by omega)
        by_contra hlt
        exact absurd (hk.trans_le (P_mono (by omega) (by omega : k.val + 2 ≤ expN v) hle)) (not_lt.mpr hv)
      · exact P_mono (by omega) (by omega) (by omega)
  · rw [if_neg hr, if_neg]
    rintro ⟨h1, h2⟩
    rcases Nat.lt_or_ge (expN v) 1 with hb | hb
    · have := i2.resolve_left (by omega)
      rw [show expN v + 1 = 1 by omega] at this
      exact absurd h1 (not_le.mpr this)
    · have : P (expN v) ≤ v := i1.resolve_left (by omega)
      rw [show expN v = 255 by omega] at this
      exact absurd h2 (not_lt.mpr this)

end Cert.Spec
-- ==== Proof.Spec.lean ====
/- What the projection computes, one row at a time: a token's normalised row, its scale and codes, the projected row, and
   the rotation of a head by an angle. Free of either program's layout. -/
module

public import proofs.«01_k».proof.Proof.ScaleMath

@[expose] public section

noncomputable section

namespace Cert.Spec

open Idealize.ShloMosaic

/-- A row of the hidden dimension. -/
abbrev Row : Type := Fin 4608 → EReal

/-- The RMS-normalised row times the gain. -/
def yv (x g : Row) (d : Fin 4608) : EReal :=
  x d * Ideal.rsqrt (Ideal.div (∑ k, x k * x k) (Ideal.ofBits .f32 0x45900000#32) + Ideal.ofBits .f32 0x358637BD#32) * g d

/-- The largest magnitude of the row. -/
def amax (x g : Row) : EReal :=
  Finset.univ.fold max (Ideal.ofBits .f32 0xFF800000#32) fun k => FloatOps.absf (F := Ideal) (φ := .f32) (yv x g k)

/-- That over the largest code, 448. -/
def ratio (x g : Row) : EReal := amax x g * Ideal.ofBits .f32 0x3B124925#32

/-- The row's scale. -/
def scale (x g : Row) : EReal := P (sN (ratio x g))

/-- Its reciprocal. -/
def factor (x g : Row) : EReal := P (iN (ratio x g))

theorem factor_def (x g : Row) : factor x g = Ideal.div 1 (scale x g) := inv_eq _

theorem ratio_zero (x g : Row) (h : amax x g = 0) : ratio x g = 0 := by rw [ratio, h, zero_mul]

/-- The row's codes. -/
def code (x g : Row) (d : Fin 4608) : EReal :=
  min (Ideal.ofBits .f32 0x43E00000#32) (max (Ideal.ofBits .f32 0xC3E00000#32) (yv x g d * factor x g))

/-- One element of the projected row: the codes against a column of the weights, by the row's scale and the column's. -/
def proj (x g w : Row) (ws : EReal) : EReal := (∑ k, code x g k * w k) * scale x g * ws

/-- An element of a rotated head: `t` and `t'` are the element and its partner half a head away, `c` and `s` the angle's
    cosine and sine, `lo` says the element lies in the first half. -/
def rot (lo : Prop) [Decidable lo] (t t' c s : EReal) : EReal := if lo then t * c - t' * s else t * c + t' * s

/-- The frequency of a pair of elements of a head. -/
def invFreq (j : Fin 64) : EReal :=
  Ideal.pow (Ideal.ofBits .f32 0x461C4000#32)
    (Ideal.div (-(Ideal.ofBits .f32 0x40000000#32 * FloatOps.sitofp (F := Ideal) .f32 (BitVec.ofNat 32 j.val))) (Ideal.ofBits .f32 0x43000000#32))

/-- The angle of a position at a frequency. -/
def angle (w : BitVec 32) (φ : EReal) : EReal := FloatOps.sitofp (F := Ideal) .f32 w * φ

end Cert.Spec
-- ==== Proof.Operands.lean ====
/- The blocks a grid point is given, in terms of the argument arrays. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Blk

open Cert.KernelIdeal Cert.KernelIdeal.Gen Idealize.ShloMosaic Idealize.ShloMosaic.TcCoe Idealize.SL.Sem

variable (m : (ℓ : Loc nD τ sig) → Buf (Elt Ideal) ℓ)

theorem points (t : Fin cfg0.N) : t.val < 4 := lt_of_lt_of_eq t.isLt N_0

/-! The index maps: the activations advance with the point, every other operand is one whole block. -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- A row of the block is a row of the flattened activations. -/
theorem iblk0_apply (c : Dev nD) (t : Fin cfg0.N) (i : Fin 256) (k : Fin 4608) :
    iblk m c 0 t (ix2 i k) = V m c main_v10 (ix2 ⟨256 * t.val + i.val, by have := points t; omega⟩ k) := by
  blk_ext! [iblk, index0 t]

theorem iblk1_eq (c : Dev nD) (t : Fin cfg0.N) : iblk m c 1 t = V m c main_v11 := by
  blk_ext! [iblk, index1 t]
theorem iblk2_eq (c : Dev nD) (t : Fin cfg0.N) : iblk m c 2 t = V m c main_arg2 := by
  blk_ext! [iblk, index2 t]
theorem iblk3_eq (c : Dev nD) (t : Fin cfg0.N) : iblk m c 3 t = V m c main_v12 := by
  blk_ext! [iblk, index3 t]
theorem iblk4_eq (c : Dev nD) (t : Fin cfg0.N) : iblk m c 4 t = V m c main_arg3 := by
  blk_ext! [iblk, index4 t]
theorem iblk5_eq (c : Dev nD) (t : Fin cfg0.N) : iblk m c 5 t = V m c main_v13 := by
  blk_ext! [iblk, index5 t]

/-- The gain, as a row. -/
theorem V_gain (c : Dev nD) (k : Fin 4608) : V m c main_v11 (ix2 0 k) = m ((c : Thread nD τ).loc main_arg1) (ix1 k) := by
  entry_read
  pointwise

/-- The column scales, as a row. -/
theorem V_ws (c : Dev nD) (k : Fin 4096) : V m c main_v13 (ix2 0 k) = m ((c : Thread nD τ).loc main_arg4) (ix1 k) := by
  entry_read
  pointwise

/-- A row of the flattened activations is a token of a batch. -/
theorem V_x (c : Dev nD) (n : Fin 1024) (k : Fin 4608) : V m c main_v10 (ix2 n k) = m ((c : Thread nD τ).loc main_arg0) (ix3 ⟨n.val / 512, by omega⟩ ⟨n.val % 512, by omega⟩ k) := by
  entry_read
  pointwise

/-- The frequencies, as a column. -/
theorem V_freq (c : Dev nD) (j : Fin 64) : (show EReal from V m c main_v12 (ix2 j 0)) = Spec.invFreq j := by
  unfold Spec.invFreq
  entry_read
  pointwise

end Cert.KernelIdeal.Blk
-- ==== Proof.Groups.lean ====
/- Every group of thirty-two rows is quantised by the same function. The generated payloads cut the eight groups of a
   block at different places; here the composition of each group's payloads is shown to be that of group 0. -/
module

public import proofs.«01_k».proof.Proof.Gen.KernelIdeal.Skeleton
public import Idealize.ShloMosaic.PureOps.Ideal

@[expose] public section

set_option maxRecDepth 16384

noncomputable section

namespace Cert.KernelIdeal.Blk

open Cert.KernelIdeal Cert.KernelIdeal.Gen Idealize.ShloMosaic Idealize.SL.Sem

/-- The 8-bit codes of thirty-two rows. -/
def grpCodes (x : Vec Ideal S32x4608 .bf16) (g : Vec Ideal S1x4608 .f32) : FVec Ideal S32x4608 .fp8e4m3 :=
  k0_pay21 (k0_pay13 x g) (k0_pay14 x g) (k0_pay15 x g) (k0_pay18 (k0_pay15 x g) (k0_pay16 x g) (k0_pay17 x g)) (k0_pay19 (k0_pay15 x g) (k0_pay16 x g) (k0_pay17 x g))

/-- The scale of each of thirty-two rows. -/
def grpScale (x : Vec Ideal S32x4608 .bf16) (g : Vec Ideal S1x4608 .f32) : FVec Ideal S32x1 .f32 :=
  k0_pay22 (k0_pay20 (k0_pay14 x g) (k0_pay15 x g) (k0_pay18 (k0_pay15 x g) (k0_pay16 x g) (k0_pay17 x g)) (k0_pay19 (k0_pay15 x g) (k0_pay16 x g) (k0_pay17 x g)))

/-- The same scale, one copy for each of 128 columns. -/
def grpXs (x : Vec Ideal S32x4608 .bf16) (g : Vec Ideal S1x4608 .f32) : FVec Ideal S32x128 .f32 :=
  k0_pay23 (k0_pay20 (k0_pay14 x g) (k0_pay15 x g) (k0_pay18 (k0_pay15 x g) (k0_pay16 x g) (k0_pay17 x g)) (k0_pay19 (k0_pay15 x g) (k0_pay16 x g) (k0_pay17 x g)))

variable (x : Vec Ideal S32x4608 .bf16) (g : Vec Ideal S1x4608 .f32)

theorem grpCodes_0 : k0_pay21 (k0_pay13 x g) (k0_pay14 x g) (k0_pay15 x g) (k0_pay18 (k0_pay15 x g) (k0_pay16 x g) (k0_pay17 x g)) (k0_pay19 (k0_pay15 x g) (k0_pay16 x g) (k0_pay17 x g)) = grpCodes x g := rfl

theorem grpCodes_1 : k0_pay32 (k0_pay24 x g) (k0_pay31 (k0_pay25 x g) (k0_pay26 x g) (k0_pay27 (k0_pay26 x g)) (k0_pay28 (k0_pay26 x g)) k0_pay29) = grpCodes x g := rfl

theorem grpCodes_2 : k0_pay43 (k0_pay37 (k0_pay35 g) (k0_pay36 x)) (k0_pay38 (k0_pay35 g) (k0_pay36 x)) (k0_pay41 (k0_pay39 (k0_pay35 g) (k0_pay36 x)) (k0_pay40 (k0_pay35 g) (k0_pay36 x))) = grpCodes x g := rfl

theorem grpCodes_3 : k0_pay55 (k0_pay54 (k0_pay46 x g) (k0_pay47 x g) (k0_pay48 x g) (k0_pay51 (k0_pay48 x g) (k0_pay49 x g) k0_pay50) k0_pay52) (FloatOps.ofBits FTy.f32 3286237184#32) = grpCodes x g := rfl

theorem grpCodes_4 : k0_pay67 (k0_pay58 x g) (k0_pay64 (k0_pay61 (k0_pay59 x g)) (k0_pay62 (k0_pay59 x g)) (k0_pay63 (k0_pay59 x g)) 23#32) (k0_pay65 (k0_pay60 (k0_pay59 x g))) = grpCodes x g := rfl

theorem grpCodes_5 : k0_pay78 (k0_pay70 x g) (k0_pay71 x g) (k0_pay72 x g) (k0_pay75 (k0_pay72 x g) (k0_pay73 x g) (k0_pay74 x g)) (k0_pay76 (k0_pay72 x g) (k0_pay73 x g) (k0_pay74 x g)) = grpCodes x g := rfl

theorem grpCodes_6 : k0_pay91 (k0_pay82 x g) (k0_pay90 (k0_pay83 x g) (k0_pay84 x g) (k0_pay87 (k0_pay84 x g) k0_pay85 (k0_pay86 x g)) (k0_pay88 (k0_pay84 x g) k0_pay85 (k0_pay86 x g))) 23#32 = grpCodes x g := rfl

theorem grpCodes_7 : k0_pay107 (k0_pay97 (k0_pay94 g) (k0_pay95 x) (k0_pay96 x)) (k0_pay98 (k0_pay94 g) (k0_pay95 x) (k0_pay96 x)) (k0_pay104 (k0_pay99 (k0_pay94 g) (k0_pay95 x) (k0_pay96 x)) (k0_pay100 (k0_pay94 g) (k0_pay95 x) (k0_pay96 x)) (k0_pay101 (k0_pay94 g) (k0_pay95 x) (k0_pay96 x)) k0_pay102) (k0_pay105 (k0_pay99 (k0_pay94 g) (k0_pay95 x) (k0_pay96 x)) (k0_pay100 (k0_pay94 g) (k0_pay95 x) (k0_pay96 x)) (k0_pay101 (k0_pay94 g) (k0_pay95 x) (k0_pay96 x)) k0_pay102) = grpCodes x g := rfl

theorem grpScale_0 : k0_pay22 (k0_pay20 (k0_pay14 x g) (k0_pay15 x g) (k0_pay18 (k0_pay15 x g) (k0_pay16 x g) (k0_pay17 x g)) (k0_pay19 (k0_pay15 x g) (k0_pay16 x g) (k0_pay17 x g))) = grpScale x g := rfl

theorem grpScale_1 : k0_pay33 (k0_pay30 (k0_pay25 x g) (k0_pay26 x g) (k0_pay27 (k0_pay26 x g)) (k0_pay28 (k0_pay26 x g)) k0_pay29) = grpScale x g := rfl

theorem grpScale_2 : k0_pay44 (k0_pay38 (k0_pay35 g) (k0_pay36 x)) (k0_pay41 (k0_pay39 (k0_pay35 g) (k0_pay36 x)) (k0_pay40 (k0_pay35 g) (k0_pay36 x))) = grpScale x g := rfl

theorem grpScale_3 : k0_pay56 (k0_pay53 (k0_pay47 x g) (k0_pay48 x g) (k0_pay51 (k0_pay48 x g) (k0_pay49 x g) k0_pay50) k0_pay52) = grpScale x g := rfl

theorem grpScale_4 : k0_pay68 (k0_pay64 (k0_pay61 (k0_pay59 x g)) (k0_pay62 (k0_pay59 x g)) (k0_pay63 (k0_pay59 x g)) 23#32) (k0_pay65 (k0_pay60 (k0_pay59 x g))) = grpScale x g := rfl

theorem grpScale_5 : k0_pay80 (k0_pay79 (k0_pay71 x g) (k0_pay72 x g) (k0_pay75 (k0_pay72 x g) (k0_pay73 x g) (k0_pay74 x g)) (k0_pay76 (k0_pay72 x g) (k0_pay73 x g) (k0_pay74 x g))) 23#32 = grpScale x g := rfl

theorem grpScale_6 : k0_pay92 (k0_pay89 (k0_pay83 x g) (k0_pay84 x g) (k0_pay87 (k0_pay84 x g) k0_pay85 (k0_pay86 x g)) (k0_pay88 (k0_pay84 x g) k0_pay85 (k0_pay86 x g))) = grpScale x g := rfl

theorem grpScale_7 : k0_pay108 (k0_pay98 (k0_pay94 g) (k0_pay95 x) (k0_pay96 x)) (k0_pay104 (k0_pay99 (k0_pay94 g) (k0_pay95 x) (k0_pay96 x)) (k0_pay100 (k0_pay94 g) (k0_pay95 x) (k0_pay96 x)) (k0_pay101 (k0_pay94 g) (k0_pay95 x) (k0_pay96 x)) k0_pay102) (k0_pay105 (k0_pay99 (k0_pay94 g) (k0_pay95 x) (k0_pay96 x)) (k0_pay100 (k0_pay94 g) (k0_pay95 x) (k0_pay96 x)) (k0_pay101 (k0_pay94 g) (k0_pay95 x) (k0_pay96 x)) k0_pay102) = grpScale x g := rfl

theorem grpXs_0 : k0_pay23 (k0_pay20 (k0_pay14 x g) (k0_pay15 x g) (k0_pay18 (k0_pay15 x g) (k0_pay16 x g) (k0_pay17 x g)) (k0_pay19 (k0_pay15 x g) (k0_pay16 x g) (k0_pay17 x g))) = grpXs x g := rfl

theorem grpXs_1 : k0_pay34 (k0_pay30 (k0_pay25 x g) (k0_pay26 x g) (k0_pay27 (k0_pay26 x g)) (k0_pay28 (k0_pay26 x g)) k0_pay29) = grpXs x g := rfl

theorem grpXs_2 : k0_pay45 (k0_pay44 (k0_pay38 (k0_pay35 g) (k0_pay36 x)) (k0_pay41 (k0_pay39 (k0_pay35 g) (k0_pay36 x)) (k0_pay40 (k0_pay35 g) (k0_pay36 x)))) = grpXs x g := rfl

theorem grpXs_3 : k0_pay57 (k0_pay53 (k0_pay47 x g) (k0_pay48 x g) (k0_pay51 (k0_pay48 x g) (k0_pay49 x g) k0_pay50) k0_pay52) = grpXs x g := rfl

theorem grpXs_4 : k0_pay69 (k0_pay64 (k0_pay61 (k0_pay59 x g)) (k0_pay62 (k0_pay59 x g)) (k0_pay63 (k0_pay59 x g)) 23#32) (k0_pay65 (k0_pay60 (k0_pay59 x g))) = grpXs x g := rfl

theorem grpXs_5 : k0_pay81 (k0_pay79 (k0_pay71 x g) (k0_pay72 x g) (k0_pay75 (k0_pay72 x g) (k0_pay73 x g) (k0_pay74 x g)) (k0_pay76 (k0_pay72 x g) (k0_pay73 x g) (k0_pay74 x g))) 23#32 = grpXs x g := rfl

theorem grpXs_6 : k0_pay93 (k0_pay89 (k0_pay83 x g) (k0_pay84 x g) (k0_pay87 (k0_pay84 x g) k0_pay85 (k0_pay86 x g)) (k0_pay88 (k0_pay84 x g) k0_pay85 (k0_pay86 x g))) = grpXs x g := rfl

theorem grpXs_7 : k0_pay110 (k0_pay109 (k0_pay98 (k0_pay94 g) (k0_pay95 x) (k0_pay96 x)) (k0_pay104 (k0_pay99 (k0_pay94 g) (k0_pay95 x) (k0_pay96 x)) (k0_pay100 (k0_pay94 g) (k0_pay95 x) (k0_pay96 x)) (k0_pay101 (k0_pay94 g) (k0_pay95 x) (k0_pay96 x)) k0_pay102) (k0_pay105 (k0_pay99 (k0_pay94 g) (k0_pay95 x) (k0_pay96 x)) (k0_pay100 (k0_pay94 g) (k0_pay95 x) (k0_pay96 x)) (k0_pay101 (k0_pay94 g) (k0_pay95 x) (k0_pay96 x)) k0_pay102)) = grpXs x g := rfl

end Cert.KernelIdeal.Blk
-- ==== Proof.GroupValue.lean ====
/- What one group of thirty-two rows computes, read at an index. -/
module

public import proofs.«01_k».proof.Proof.Groups
public import proofs.«01_k».proof.Proof.Spec

@[expose] public section

set_option maxRecDepth 16384

noncomputable section

namespace Cert.KernelIdeal.Blk

open Cert.KernelIdeal Cert.KernelIdeal.Gen Cert.Spec Idealize.ShloMosaic Idealize.SL.Sem

/-- One step of the exponent's search, for every row of the group. -/
def stepV (v : FVec Ideal S32x1 .f32) (b : BitVec 32) (w : IVec S32x1 32) : IVec S32x1 32 :=
  select (cmpf .oge v (bitcastToFloat .f32 (shli (addi w (broadcast S32x1 b)) (broadcast S32x1 23#32)))) (addi w (broadcast S32x1 b)) w

theorem stepV_apply (v : FVec Ideal S32x1 .f32) (b : BitVec 32) (w : IVec S32x1 32) (i : Fin 32) :
    stepV v b w (ix2 i 0) = stepW (v (ix2 i 0)) b (w (ix2 i 0)) := by
  pointwise [stepV, stepW]

/-- The whole search. -/
def expV (v : FVec Ideal S32x1 .f32) : IVec S32x1 32 :=
  stepV v 1#32 (stepV v 2#32 (stepV v 4#32 (stepV v 8#32 (stepV v 16#32 (stepV v 32#32 (stepV v 64#32 (stepV v 128#32 (broadcast S32x1 0#32))))))))

theorem expV_apply (v : FVec Ideal S32x1 .f32) (i : Fin 32) : expV v (ix2 i 0) = expW (v (ix2 i 0)) := by
  simp only [expV, stepV_apply, expW]
  rfl

variable (x : Vec Ideal S32x4608 .bf16) (g : Vec Ideal S1x4608 .f32)

/-- The exponent chosen for each row. -/
def grpE : IVec S32x1 32 :=
  select (cmpf .oeq (k0_pay14 x g) (broadcast S32x1 (Scalar.ofBits .f32 0x00000000#32))) (broadcast S32x1 0#32)
    (select (andi (cmpi .sgt (expV (k0_pay15 x g)) (broadcast S32x1 0#32)) (cmpi .slt (expV (k0_pay15 x g)) (broadcast S32x1 255#32)))
      (subi (expV (k0_pay15 x g)) (broadcast S32x1 126#32)) (broadcast S32x1 0#32))

theorem grpE_eq : k0_pay20 (k0_pay14 x g) (k0_pay15 x g) (k0_pay18 (k0_pay15 x g) (k0_pay16 x g) (k0_pay17 x g))
    (k0_pay19 (k0_pay15 x g) (k0_pay16 x g) (k0_pay17 x g)) = grpE x g := rfl

/-- A row of the group, and the gain, as functions of the column. -/
abbrev rowX (i : Fin 32) : Row := fun k => x (ix2 i k)
abbrev rowG : Row := fun k => g (ix2 0 k)

theorem pay13_apply (i : Fin 32) (d : Fin 4608) : k0_pay13 x g (ix2 i d) = yv (rowX x i) (rowG g) d := by
  pointwise [k0_pay13, yv]

theorem pay14_apply (i : Fin 32) : k0_pay14 x g (ix2 i 0) = amax (rowX x i) (rowG g) := by
  pointwise [k0_pay14, amax]
  simp only [pay13_apply]

theorem pay15_apply (i : Fin 32) : k0_pay15 x g (ix2 i 0) = ratio (rowX x i) (rowG g) := by
  pointwise [k0_pay15, ratio]
  simp only [pay14_apply]

theorem grpE_apply (i : Fin 32) : grpE x g (ix2 i 0) = eW (amax (rowX x i) (rowG g)) (ratio (rowX x i) (rowG g)) := by
  pointwise [grpE, eW]
  simp only [expV_apply, pay14_apply, pay15_apply]

theorem grpScale_apply (i : Fin 32) : grpScale x g (ix2 i 0) = scale (rowX x i) (rowG g) := by
  unfold grpScale
  rw [grpE_eq, scale, ← kernel_scale _ _ (ratio_zero _ _), ← grpE_apply]
  pointwise [k0_pay22, twoPow]

theorem grpXs_apply (i : Fin 32) (j : Fin 128) : grpXs x g (ix2 i j) = scale (rowX x i) (rowG g) := by
  unfold grpXs
  rw [← grpScale_apply]
  pointwise [k0_pay23, grpScale]

theorem grpCodes_apply (i : Fin 32) (d : Fin 4608) : grpCodes x g (ix2 i d) = code (rowX x i) (rowG g) d := by
  have h : k0_pay20 (k0_pay14 x g) (k0_pay15 x g) (k0_pay18 (k0_pay15 x g) (k0_pay16 x g) (k0_pay17 x g))
    (k0_pay19 (k0_pay15 x g) (k0_pay16 x g) (k0_pay17 x g)) (ix2 i 0) = _ := (congrFun (grpE_eq x g) _).trans (grpE_apply x g i)
  unfold grpCodes
  pointwise [k0_pay21, code]
  rw [h, pay13_apply, factor, ← kernel_inv _ _ (ratio_zero _ _)]
  rfl

end Cert.KernelIdeal.Blk
-- ==== Proof.Rows8.lean ====
/- A block of 256 rows stored as eight groups of thirty-two rows. -/
module

public import Idealize.ShloMosaic.Lib.Pipeline.ValueKit
public import Idealize.ShloMosaic.Lib.Pipeline.ReadBack

@[expose] public section

noncomputable section

namespace Cert.Rows8

open Idealize.ShloMosaic

variable {Val : EltTy → Type} [∀ e, Nonempty (Val e)] {e : EltTy} {n : ℕ}

theorem mem_group (o : ℕ) (i : ∀ a, (![o, 0] : Fin 2 → ℕ) a + (![32, n] : Fin 2 → ℕ) a ≤ (⟨2, ![256, n]⟩ : Shape).size a)
    (y : (⟨2, ![256, n]⟩ : Shape).Idx) (h : o ≤ (y 0).val) (h' : (y 0).val < o + 32) : y ∈ (Rect.unit (s := ⟨2, ![256, n]⟩) ![o, 0] ![32, n] i).set := by
  have h1 : (y 1).val < n := (y 1).isLt
  refine Rect.mem_set_unit.2 fun a => ?_
  match a with
  | ⟨0, _⟩ => exact ⟨h, h'⟩
  | ⟨1, _⟩ => exact ⟨Nat.zero_le _, by show (y 1).val < 0 + n; omega⟩

/-- When every group's payload is `G` at the rows the group names, the block holds `G`. -/
theorem canon_eq {i7 : ∀ a, (![224, 0] : Fin 2 → ℕ) a + (![32, n] : Fin 2 → ℕ) a ≤ (⟨2, ![256, n]⟩ : Shape).size a} {i6 : ∀ a, (![192, 0] : Fin 2 → ℕ) a + (![32, n] : Fin 2 → ℕ) a ≤ (⟨2, ![256, n]⟩ : Shape).size a} {i5 : ∀ a, (![160, 0] : Fin 2 → ℕ) a + (![32, n] : Fin 2 → ℕ) a ≤ (⟨2, ![256, n]⟩ : Shape).size a} {i4 : ∀ a, (![128, 0] : Fin 2 → ℕ) a + (![32, n] : Fin 2 → ℕ) a ≤ (⟨2, ![256, n]⟩ : Shape).size a} {i3 : ∀ a, (![96, 0] : Fin 2 → ℕ) a + (![32, n] : Fin 2 → ℕ) a ≤ (⟨2, ![256, n]⟩ : Shape).size a} {i2 : ∀ a, (![64, 0] : Fin 2 → ℕ) a + (![32, n] : Fin 2 → ℕ) a ≤ (⟨2, ![256, n]⟩ : Shape).size a} {i1 : ∀ a, (![32, 0] : Fin 2 → ℕ) a + (![32, n] : Fin 2 → ℕ) a ≤ (⟨2, ![256, n]⟩ : Shape).size a} {i0 : ∀ a, (![0, 0] : Fin 2 → ℕ) a + (![32, n] : Fin 2 → ℕ) a ≤ (⟨2, ![256, n]⟩ : Shape).size a} {w7 w6 w5 w4 w3 w2 w1 w0 : (⟨2, ![32, n]⟩ : Shape).Idx → Val e} {G : (⟨2, ![256, n]⟩ : Shape).Idx → Val e}
    (h7 : ∀ z, w7 z = G ((Rect.unit (s := ⟨2, ![256, n]⟩) ![224, 0] ![32, n] i7).emb z))
    (h6 : ∀ z, w6 z = G ((Rect.unit (s := ⟨2, ![256, n]⟩) ![192, 0] ![32, n] i6).emb z))
    (h5 : ∀ z, w5 z = G ((Rect.unit (s := ⟨2, ![256, n]⟩) ![160, 0] ![32, n] i5).emb z))
    (h4 : ∀ z, w4 z = G ((Rect.unit (s := ⟨2, ![256, n]⟩) ![128, 0] ![32, n] i4).emb z))
    (h3 : ∀ z, w3 z = G ((Rect.unit (s := ⟨2, ![256, n]⟩) ![96, 0] ![32, n] i3).emb z))
    (h2 : ∀ z, w2 z = G ((Rect.unit (s := ⟨2, ![256, n]⟩) ![64, 0] ![32, n] i2).emb z))
    (h1 : ∀ z, w1 z = G ((Rect.unit (s := ⟨2, ![256, n]⟩) ![32, 0] ![32, n] i1).emb z))
    (h0 : ∀ z, w0 z = G ((Rect.unit (s := ⟨2, ![256, n]⟩) ![0, 0] ![32, n] i0).emb z)) :
    View.canon [⟨Rect.unit ![224, 0] ![32, n] i7, w7⟩, ⟨Rect.unit ![192, 0] ![32, n] i6, w6⟩, ⟨Rect.unit ![160, 0] ![32, n] i5, w5⟩, ⟨Rect.unit ![128, 0] ![32, n] i4, w4⟩, ⟨Rect.unit ![96, 0] ![32, n] i3, w3⟩, ⟨Rect.unit ![64, 0] ![32, n] i2, w2⟩, ⟨Rect.unit ![32, 0] ![32, n] i1, w1⟩, ⟨Rect.unit ![0, 0] ![32, n] i0, w0⟩] = G := by
  funext y
  have hy : (y 0).val < 256 := (y 0).isLt
  refine View.canon_apply_of_pieces G _ (fun p hp => ?_) y ?_
  · simp only [List.mem_cons, List.not_mem_nil, or_false] at hp
    obtain rfl | rfl | rfl | rfl | rfl | rfl | rfl | rfl := hp
    · exact h7
    · exact h6
    · exact h5
    · exact h4
    · exact h3
    · exact h2
    · exact h1
    · exact h0
  · obtain h | h | h | h | h | h | h | h : (y 0).val / 32 = 7 ∨ (y 0).val / 32 = 6 ∨ (y 0).val / 32 = 5 ∨ (y 0).val / 32 = 4 ∨ (y 0).val / 32 = 3 ∨
      (y 0).val / 32 = 2 ∨ (y 0).val / 32 = 1 ∨ (y 0).val / 32 = 0 := by omega
    · exact ⟨_, List.mem_cons_self, mem_group _ i7 y (by omega) (by omega)⟩
    · exact ⟨_, List.mem_cons_of_mem _ (List.mem_cons_self), mem_group _ i6 y (by omega) (by omega)⟩
    · exact ⟨_, List.mem_cons_of_mem _ (List.mem_cons_of_mem _ (List.mem_cons_self)), mem_group _ i5 y (by omega) (by omega)⟩
    · exact ⟨_, List.mem_cons_of_mem _ (List.mem_cons_of_mem _ (List.mem_cons_of_mem _ (List.mem_cons_self))), mem_group _ i4 y (by omega) (by omega)⟩
    · exact ⟨_, List.mem_cons_of_mem _ (List.mem_cons_of_mem _ (List.mem_cons_of_mem _ (List.mem_cons_of_mem _ (List.mem_cons_self)))), mem_group _ i3 y (by omega) (by omega)⟩
    · exact ⟨_, List.mem_cons_of_mem _ (List.mem_cons_of_mem _ (List.mem_cons_of_mem _ (List.mem_cons_of_mem _ (List.mem_cons_of_mem _ (List.mem_cons_self))))), mem_group _ i2 y (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_group _ i1 y (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_group _ i0 y (by omega) (by omega)⟩

/-- The whole block's rectangle places an index at itself. -/
theorem whole_idx {ib : ∀ a, (![0, 0] : Fin 2 → ℕ) a + (⟨2, ![256, n]⟩ : Shape).size a ≤ (⟨2, ![256, n]⟩ : Shape).size a} (y : (⟨2, ![256, n]⟩ : Shape).Idx) :
    (Rect.unit (s := ⟨2, ![256, n]⟩) ![0, 0] (⟨2, ![256, n]⟩ : Shape).size ib).toLoadRect.idx y = y := by
  refine funext fun a => Fin.ext ?_
  match a with
  | ⟨0, _⟩ => show 0 + 1 * (y 0).val = (y 0).val; omega
  | ⟨1, _⟩ => show 0 + 1 * (y 1).val = (y 1).val; omega

end Cert.Rows8
-- ==== Proof.Block.lean ====
/- The codes and scales of one block of 256 rows: eight groups of thirty-two rows, each stored by itself. -/
module

public import proofs.«01_k».proof.Proof.GroupValue
public import proofs.«01_k».proof.Proof.Rows8

@[expose] public section

set_option maxRecDepth 16384

noncomputable section

namespace Cert.KernelIdeal.Blk

open Cert.KernelIdeal Cert.KernelIdeal.Gen Cert.Spec Idealize.ShloMosaic Idealize.SL.Sem

variable (x : Vec Ideal S256x4608 .bf16) (g : Vec Ideal S1x4608 .f32)

/-- A row of the block. -/
abbrev rowB (i : Fin 256) : Row := fun k => x (ix2 i k)

/-! ### The codes -/

/-- What the block holds. -/
def codesV (y : S256x4608.Idx) : EReal := code (rowB x (y 0)) (rowG g) (y 1)

theorem codes_piece (o : ℕ) (inb : ∀ a, (![o, 0] : Fin 2 → ℕ) a + (![32, 4608] : Fin 2 → ℕ) a ≤ S256x4608.size a)
    (inb' : ∀ a, (![o, 0] : Fin 2 → ℕ) a + (![32, 4608] : Fin 2 → ℕ) a ≤ S256x4608.size a) (z : S32x4608.Idx) :
    grpCodes (View.ld x (Rect.unit (s := S256x4608) ![o, 0] ![32, 4608] inb)) g z = codesV x g ((Rect.unit (s := S256x4608) ![o, 0] ![32, 4608] inb').emb z) := by
  idx_vars z
  skip
  refine (grpCodes_apply _ g z0 z1).trans ?_
  have hrow : rowX (View.ld x (Rect.unit (s := S256x4608) ![o, 0] ![32, 4608] inb)) z0
      = rowB x ((Rect.unit (s := S256x4608) ![o, 0] ![32, 4608] inb').emb (ix2 z0 z1) 0) :=
    funext fun k => View.ld_unit_apply_of x _ _ inb _ _ fun a => by
      match a with
      | ⟨0, _⟩ => show o + 1 * z0.val = o + z0.val; omega
      | ⟨1, _⟩ => show k.val = 0 + k.val; omega
  rw [hrow, codesV]
  congr 1; exact Fin.ext (by show z1.val = 0 + 1 * z1.val; omega)

/-- The eight stores, each of thirty-two rows, the last first. -/
theorem codes_canon : View.canon (Val := Elt Ideal) (e := .fp8e4m3)
     [⟨Rect.unit ![224, 0] ![32, 4608] inb_S256x4608_S32x4608_224_0, grpCodes (View.ld x (Rect.unit ![224, 0] ![32, 4608] inb_S256x4608_S32x4608_224_0)) g⟩,
      ⟨Rect.unit ![192, 0] ![32, 4608] inb_S256x4608_S32x4608_192_0, grpCodes (View.ld x (Rect.unit ![192, 0] ![32, 4608] inb_S256x4608_S32x4608_192_0)) g⟩,
      ⟨Rect.unit ![160, 0] ![32, 4608] inb_S256x4608_S32x4608_160_0, grpCodes (View.ld x (Rect.unit ![160, 0] ![32, 4608] inb_S256x4608_S32x4608_160_0)) g⟩,
      ⟨Rect.unit ![128, 0] ![32, 4608] inb_S256x4608_S32x4608_128_0, grpCodes (View.ld x (Rect.unit ![128, 0] ![32, 4608] inb_S256x4608_S32x4608_128_0)) g⟩,
      ⟨Rect.unit ![96, 0] ![32, 4608] inb_S256x4608_S32x4608_96_0, grpCodes (View.ld x (Rect.unit ![96, 0] ![32, 4608] inb_S256x4608_S32x4608_96_0)) g⟩,
      ⟨Rect.unit ![64, 0] ![32, 4608] inb_S256x4608_S32x4608_64_0, grpCodes (View.ld x (Rect.unit ![64, 0] ![32, 4608] inb_S256x4608_S32x4608_64_0)) g⟩,
      ⟨Rect.unit ![32, 0] ![32, 4608] inb_S256x4608_S32x4608_32_0, grpCodes (View.ld x (Rect.unit ![32, 0] ![32, 4608] inb_S256x4608_S32x4608_32_0)) g⟩,
      ⟨Rect.unit ![0, 0] ![32, 4608] inb_S256x4608_S32x4608_0_0, grpCodes (View.ld x (Rect.unit ![0, 0] ![32, 4608] inb_S256x4608_S32x4608_0_0)) g⟩] = codesV x g :=
  Rows8.canon_eq (Val := Elt Ideal) (e := .fp8e4m3) (n := 4608) (codes_piece x g _ _ _) (codes_piece x g _ _ _) (codes_piece x g _ _ _) (codes_piece x g _ _ _) (codes_piece x g _ _ _) (codes_piece x g _ _ _) (codes_piece x g _ _ _) (codes_piece x g _ _ _)

/-! ### The scale of each row -/

/-- What the block holds. -/
def scalesV (y : S256x1.Idx) : EReal := scale (rowB x (y 0)) (rowG g)

theorem scales_piece (o : ℕ) (inb : ∀ a, (![o, 0] : Fin 2 → ℕ) a + (![32, 4608] : Fin 2 → ℕ) a ≤ S256x4608.size a)
    (inb' : ∀ a, (![o, 0] : Fin 2 → ℕ) a + (![32, 1] : Fin 2 → ℕ) a ≤ S256x1.size a) (z : S32x1.Idx) :
    grpScale (View.ld x (Rect.unit (s := S256x4608) ![o, 0] ![32, 4608] inb)) g z = scalesV x g ((Rect.unit (s := S256x1) ![o, 0] ![32, 1] inb').emb z) := by
  idx_vars z
  obtain rfl : z1 = 0 := Subsingleton.elim _ _
  refine (grpScale_apply _ g z0).trans ?_
  have hrow : rowX (View.ld x (Rect.unit (s := S256x4608) ![o, 0] ![32, 4608] inb)) z0
      = rowB x ((Rect.unit (s := S256x1) ![o, 0] ![32, 1] inb').emb (ix2 z0 0) 0) :=
    funext fun k => View.ld_unit_apply_of x _ _ inb _ _ fun a => by
      match a with
      | ⟨0, _⟩ => show o + 1 * z0.val = o + z0.val; omega
      | ⟨1, _⟩ => show k.val = 0 + k.val; omega
  rw [hrow, scalesV]

/-- The eight stores, each of thirty-two rows, the last first. -/
theorem scales_canon : View.canon (Val := Elt Ideal) (e := .f32)
     [⟨Rect.unit ![224, 0] ![32, 1] inb_S256x1_S32x1_224_0, grpScale (View.ld x (Rect.unit ![224, 0] ![32, 4608] inb_S256x4608_S32x4608_224_0)) g⟩,
      ⟨Rect.unit ![192, 0] ![32, 1] inb_S256x1_S32x1_192_0, grpScale (View.ld x (Rect.unit ![192, 0] ![32, 4608] inb_S256x4608_S32x4608_192_0)) g⟩,
      ⟨Rect.unit ![160, 0] ![32, 1] inb_S256x1_S32x1_160_0, grpScale (View.ld x (Rect.unit ![160, 0] ![32, 4608] inb_S256x4608_S32x4608_160_0)) g⟩,
      ⟨Rect.unit ![128, 0] ![32, 1] inb_S256x1_S32x1_128_0, grpScale (View.ld x (Rect.unit ![128, 0] ![32, 4608] inb_S256x4608_S32x4608_128_0)) g⟩,
      ⟨Rect.unit ![96, 0] ![32, 1] inb_S256x1_S32x1_96_0, grpScale (View.ld x (Rect.unit ![96, 0] ![32, 4608] inb_S256x4608_S32x4608_96_0)) g⟩,
      ⟨Rect.unit ![64, 0] ![32, 1] inb_S256x1_S32x1_64_0, grpScale (View.ld x (Rect.unit ![64, 0] ![32, 4608] inb_S256x4608_S32x4608_64_0)) g⟩,
      ⟨Rect.unit ![32, 0] ![32, 1] inb_S256x1_S32x1_32_0, grpScale (View.ld x (Rect.unit ![32, 0] ![32, 4608] inb_S256x4608_S32x4608_32_0)) g⟩,
      ⟨Rect.unit ![0, 0] ![32, 1] inb_S256x1_S32x1_0_0, grpScale (View.ld x (Rect.unit ![0, 0] ![32, 4608] inb_S256x4608_S32x4608_0_0)) g⟩] = scalesV x g :=
  Rows8.canon_eq (Val := Elt Ideal) (e := .f32) (n := 1) (scales_piece x g _ _ _) (scales_piece x g _ _ _) (scales_piece x g _ _ _) (scales_piece x g _ _ _) (scales_piece x g _ _ _) (scales_piece x g _ _ _) (scales_piece x g _ _ _) (scales_piece x g _ _ _)

/-! ### The scale of each row, in every column -/

/-- What the block holds. -/
def xsV (y : S256x128.Idx) : EReal := scale (rowB x (y 0)) (rowG g)

theorem xs_piece (o : ℕ) (inb : ∀ a, (![o, 0] : Fin 2 → ℕ) a + (![32, 4608] : Fin 2 → ℕ) a ≤ S256x4608.size a)
    (inb' : ∀ a, (![o, 0] : Fin 2 → ℕ) a + (![32, 128] : Fin 2 → ℕ) a ≤ S256x128.size a) (z : S32x128.Idx) :
    grpXs (View.ld x (Rect.unit (s := S256x4608) ![o, 0] ![32, 4608] inb)) g z = xsV x g ((Rect.unit (s := S256x128) ![o, 0] ![32, 128] inb').emb z) := by
  idx_vars z
  skip
  refine (grpXs_apply _ g z0 z1).trans ?_
  have hrow : rowX (View.ld x (Rect.unit (s := S256x4608) ![o, 0] ![32, 4608] inb)) z0
      = rowB x ((Rect.unit (s := S256x128) ![o, 0] ![32, 128] inb').emb (ix2 z0 z1) 0) :=
    funext fun k => View.ld_unit_apply_of x _ _ inb _ _ fun a => by
      match a with
      | ⟨0, _⟩ => show o + 1 * z0.val = o + z0.val; omega
      | ⟨1, _⟩ => show k.val = 0 + k.val; omega
  rw [hrow, xsV]

/-- The eight stores, each of thirty-two rows, the last first. -/
theorem xs_canon : View.canon (Val := Elt Ideal) (e := .f32)
     [⟨Rect.unit ![224, 0] ![32, 128] inb_S256x128_S32x128_224_0, grpXs (View.ld x (Rect.unit ![224, 0] ![32, 4608] inb_S256x4608_S32x4608_224_0)) g⟩,
      ⟨Rect.unit ![192, 0] ![32, 128] inb_S256x128_S32x128_192_0, grpXs (View.ld x (Rect.unit ![192, 0] ![32, 4608] inb_S256x4608_S32x4608_192_0)) g⟩,
      ⟨Rect.unit ![160, 0] ![32, 128] inb_S256x128_S32x128_160_0, grpXs (View.ld x (Rect.unit ![160, 0] ![32, 4608] inb_S256x4608_S32x4608_160_0)) g⟩,
      ⟨Rect.unit ![128, 0] ![32, 128] inb_S256x128_S32x128_128_0, grpXs (View.ld x (Rect.unit ![128, 0] ![32, 4608] inb_S256x4608_S32x4608_128_0)) g⟩,
      ⟨Rect.unit ![96, 0] ![32, 128] inb_S256x128_S32x128_96_0, grpXs (View.ld x (Rect.unit ![96, 0] ![32, 4608] inb_S256x4608_S32x4608_96_0)) g⟩,
      ⟨Rect.unit ![64, 0] ![32, 128] inb_S256x128_S32x128_64_0, grpXs (View.ld x (Rect.unit ![64, 0] ![32, 4608] inb_S256x4608_S32x4608_64_0)) g⟩,
      ⟨Rect.unit ![32, 0] ![32, 128] inb_S256x128_S32x128_32_0, grpXs (View.ld x (Rect.unit ![32, 0] ![32, 4608] inb_S256x4608_S32x4608_32_0)) g⟩,
      ⟨Rect.unit ![0, 0] ![32, 128] inb_S256x128_S32x128_0_0, grpXs (View.ld x (Rect.unit ![0, 0] ![32, 4608] inb_S256x4608_S32x4608_0_0)) g⟩] = xsV x g :=
  Rows8.canon_eq (Val := Elt Ideal) (e := .f32) (n := 128) (xs_piece x g _ _ _) (xs_piece x g _ _ _) (xs_piece x g _ _ _) (xs_piece x g _ _ _) (xs_piece x g _ _ _) (xs_piece x g _ _ _) (xs_piece x g _ _ _) (xs_piece x g _ _ _)

/-- Read back whole. -/
theorem codes_read {κ : Kind} {sp : Space} (v : View sig κ sp S256x4608 .fp8e4m3) {ib : ∀ a, (![0, 0] : Fin 2 → ℕ) a + S256x4608.size a ≤ S256x4608.size a} :
    v.readCov (Val := Elt Ideal)
     [⟨Rect.unit ![224, 0] ![32, 4608] inb_S256x4608_S32x4608_224_0, grpCodes (View.ld x (Rect.unit ![224, 0] ![32, 4608] inb_S256x4608_S32x4608_224_0)) g⟩,
      ⟨Rect.unit ![192, 0] ![32, 4608] inb_S256x4608_S32x4608_192_0, grpCodes (View.ld x (Rect.unit ![192, 0] ![32, 4608] inb_S256x4608_S32x4608_192_0)) g⟩,
      ⟨Rect.unit ![160, 0] ![32, 4608] inb_S256x4608_S32x4608_160_0, grpCodes (View.ld x (Rect.unit ![160, 0] ![32, 4608] inb_S256x4608_S32x4608_160_0)) g⟩,
      ⟨Rect.unit ![128, 0] ![32, 4608] inb_S256x4608_S32x4608_128_0, grpCodes (View.ld x (Rect.unit ![128, 0] ![32, 4608] inb_S256x4608_S32x4608_128_0)) g⟩,
      ⟨Rect.unit ![96, 0] ![32, 4608] inb_S256x4608_S32x4608_96_0, grpCodes (View.ld x (Rect.unit ![96, 0] ![32, 4608] inb_S256x4608_S32x4608_96_0)) g⟩,
      ⟨Rect.unit ![64, 0] ![32, 4608] inb_S256x4608_S32x4608_64_0, grpCodes (View.ld x (Rect.unit ![64, 0] ![32, 4608] inb_S256x4608_S32x4608_64_0)) g⟩,
      ⟨Rect.unit ![32, 0] ![32, 4608] inb_S256x4608_S32x4608_32_0, grpCodes (View.ld x (Rect.unit ![32, 0] ![32, 4608] inb_S256x4608_S32x4608_32_0)) g⟩,
      ⟨Rect.unit ![0, 0] ![32, 4608] inb_S256x4608_S32x4608_0_0, grpCodes (View.ld x (Rect.unit ![0, 0] ![32, 4608] inb_S256x4608_S32x4608_0_0)) g⟩]
     (Rect.unit (s := S256x4608) ![0, 0] ![256, 4608] ib).toLoadRect = codesV x g := by
  rw [View.readCov_eq_canon', codes_canon]
  exact funext fun y => congrArg (codesV x g) (Rows8.whole_idx y)

/-- Read back whole. -/
theorem xs_read {κ : Kind} {sp : Space} (v : View sig κ sp S256x128 .f32) {ib : ∀ a, (![0, 0] : Fin 2 → ℕ) a + S256x128.size a ≤ S256x128.size a} :
    v.readCov (Val := Elt Ideal)
     [⟨Rect.unit ![224, 0] ![32, 128] inb_S256x128_S32x128_224_0, grpXs (View.ld x (Rect.unit ![224, 0] ![32, 4608] inb_S256x4608_S32x4608_224_0)) g⟩,
      ⟨Rect.unit ![192, 0] ![32, 128] inb_S256x128_S32x128_192_0, grpXs (View.ld x (Rect.unit ![192, 0] ![32, 4608] inb_S256x4608_S32x4608_192_0)) g⟩,
      ⟨Rect.unit ![160, 0] ![32, 128] inb_S256x128_S32x128_160_0, grpXs (View.ld x (Rect.unit ![160, 0] ![32, 4608] inb_S256x4608_S32x4608_160_0)) g⟩,
      ⟨Rect.unit ![128, 0] ![32, 128] inb_S256x128_S32x128_128_0, grpXs (View.ld x (Rect.unit ![128, 0] ![32, 4608] inb_S256x4608_S32x4608_128_0)) g⟩,
      ⟨Rect.unit ![96, 0] ![32, 128] inb_S256x128_S32x128_96_0, grpXs (View.ld x (Rect.unit ![96, 0] ![32, 4608] inb_S256x4608_S32x4608_96_0)) g⟩,
      ⟨Rect.unit ![64, 0] ![32, 128] inb_S256x128_S32x128_64_0, grpXs (View.ld x (Rect.unit ![64, 0] ![32, 4608] inb_S256x4608_S32x4608_64_0)) g⟩,
      ⟨Rect.unit ![32, 0] ![32, 128] inb_S256x128_S32x128_32_0, grpXs (View.ld x (Rect.unit ![32, 0] ![32, 4608] inb_S256x4608_S32x4608_32_0)) g⟩,
      ⟨Rect.unit ![0, 0] ![32, 128] inb_S256x128_S32x128_0_0, grpXs (View.ld x (Rect.unit ![0, 0] ![32, 4608] inb_S256x4608_S32x4608_0_0)) g⟩]
     (Rect.unit (s := S256x128) ![0, 0] ![256, 128] ib).toLoadRect = xsV x g := by
  rw [View.readCov_eq_canon', xs_canon]
  exact funext fun y => congrArg (xsV x g) (Rows8.whole_idx y)

end Cert.KernelIdeal.Blk
-- ==== Proof.Heads.lean ====
/- Every head of the projection is computed by the same function: a slice of a block of the product, scaled by rows and
   columns, rotated where the head is a query's or a key's, and packed with its neighbour. -/
module

public import proofs.«01_k».proof.Proof.Gen.KernelIdeal.Skeleton
public import Idealize.ShloMosaic.PureOps.Ideal
public import Idealize.ShloMosaic.Lib.Pointwise

@[expose] public section

set_option maxRecDepth 16384

noncomputable section

namespace Cert.KernelIdeal.Blk

open Cert.KernelIdeal Cert.KernelIdeal.Gen Idealize.ShloMosaic Idealize.SL.Sem

/-- One head before rotation: 128 columns of the product, by the rows' scales and the columns'. -/
def headT (o : ℕ) (h : S256x512.Slices ![0, o] S256x128) (C : Vec Ideal S256x4608 .fp8e4m3) (W : Vec Ideal S4608x512 .fp8e4m3)
    (xs : Vec Ideal S256x128 .f32) (ws : Vec Ideal S1x128 .f32) : FVec Ideal S256x128 .f32 :=
  mulf (mulf (extractStridedSlice S256x128 ![0, o] (k0_pay111 C W) h) xs) (broadcastTo S256x128 (shapeCast S1x128 ws shapeCasts_S1x128_S1x128) broadcasts_S1x128_S256x128)

/-- The rotation. -/
def rotV (t : FVec Ideal S256x128 .f32) (cs sn : Vec Ideal S256x128 .f32) : FVec Ideal S256x128 .f32 :=
  addf (mulf t cs) (mulf (dynamicRotate 1 64#32 none t rotates_S256x128_d1) sn)

/-- Two heads packed. -/
def pairV (lo hi : FVec Ideal S256x128 .f32) : Vec Ideal S256x2x128 .bf16 :=
  interleaveRows S256x2x128 (shapeCast S256x1x128 (truncf (F := Ideal) .bf16 lo) shapeCasts_S256x128_S256x1x128) (shapeCast S256x1x128 (truncf (F := Ideal) .bf16 hi) shapeCasts_S256x128_S256x1x128) bitcasts_S256x2x128_w16_S256x1x128_w32

/-- Two rotated heads; two heads as they are. -/
def pairR (o o' : ℕ) (h : S256x512.Slices ![0, o] S256x128) (h' : S256x512.Slices ![0, o'] S256x128) (C : Vec Ideal S256x4608 .fp8e4m3) (W : Vec Ideal S4608x512 .fp8e4m3)
    (xs : Vec Ideal S256x128 .f32) (ws ws' : Vec Ideal S1x128 .f32) (cs sn : Vec Ideal S256x128 .f32) : Vec Ideal S256x2x128 .bf16 :=
  pairV (rotV (headT o h C W xs ws) cs sn) (rotV (headT o' h' C W xs ws') cs sn)
def pairP (o o' : ℕ) (h : S256x512.Slices ![0, o] S256x128) (h' : S256x512.Slices ![0, o'] S256x128) (C : Vec Ideal S256x4608 .fp8e4m3) (W : Vec Ideal S4608x512 .fp8e4m3)
    (xs : Vec Ideal S256x128 .f32) (ws ws' : Vec Ideal S1x128 .f32) : Vec Ideal S256x2x128 .bf16 :=
  pairV (headT o h C W xs ws) (headT o' h' C W xs ws')

/-! ### The generated payloads, pair by pair -/

section

variable (C : Vec Ideal S256x4608 .fp8e4m3) (W : Vec Ideal S4608x512 .fp8e4m3) (xs : Vec Ideal S256x128 .f32) (w w' : Vec Ideal S1x128 .f32) (cs sn : Vec Ideal S256x128 .f32)

theorem qPair_0 : k0_pay115 (k0_pay112 C W xs w cs sn) (k0_pay113 C W xs w' cs sn) = pairR 0 128 slices_S256x512_o0_0_S256x128 slices_S256x512_o0_128_S256x128 C W xs w w' cs sn := rfl
theorem qPair_1 : k0_pay118 (k0_pay116 (k0_pay114 C W) xs w cs sn) (k0_pay117 (k0_pay111 C W) xs w' cs sn) = pairR 256 384 slices_S256x512_o0_256_S256x128 slices_S256x512_o0_384_S256x128 C W xs w w' cs sn := rfl
theorem qPair_2 : k0_pay125 (k0_pay120 C W xs w cs sn) (k0_pay122 C W xs w' cs) (k0_pay123 C W xs w') sn = pairR 0 128 slices_S256x512_o0_0_S256x128 slices_S256x512_o0_128_S256x128 C W xs w w' cs sn := rfl
theorem qPair_3 : k0_pay127 (k0_pay124 (k0_pay119 C W) xs w' cs sn) (k0_pay126 (k0_pay119 C W) xs w cs sn) = pairR 256 384 slices_S256x512_o0_256_S256x128 slices_S256x512_o0_384_S256x128 C W xs w w' cs sn := rfl
theorem qPair_4 : k0_pay137 (k0_pay135 (k0_pay129 C W xs w cs sn)) (k0_pay136 (k0_pay131 C W xs w' cs) (k0_pay132 C W xs w') sn) = pairR 0 128 slices_S256x512_o0_0_S256x128 slices_S256x512_o0_128_S256x128 C W xs w w' cs sn := rfl
theorem qPair_5 : k0_pay138 (k0_pay133 (k0_pay128 C W) xs w cs sn) (k0_pay134 (k0_pay128 C W) xs w' cs sn) = pairR 256 384 slices_S256x512_o0_256_S256x128 slices_S256x512_o0_384_S256x128 C W xs w w' cs sn := rfl
theorem qPair_6 : k0_pay147 (k0_pay144 (k0_pay140 C W xs w cs sn)) (k0_pay145 (k0_pay141 C W xs w') cs sn) = pairR 0 128 slices_S256x512_o0_0_S256x128 slices_S256x512_o0_128_S256x128 C W xs w w' cs sn := rfl
theorem qPair_7 : k0_pay148 (k0_pay142 (k0_pay139 C W) xs w cs sn) (k0_pay143 (k0_pay139 C W) xs w' cs sn) = pairR 256 384 slices_S256x512_o0_256_S256x128 slices_S256x512_o0_384_S256x128 C W xs w w' cs sn := rfl
theorem kPair_0 : k0_pay156 (k0_pay154 (k0_pay150 C W xs w cs sn)) (k0_pay155 (k0_pay151 C W xs w') cs sn) = pairR 0 128 slices_S256x512_o0_0_S256x128 slices_S256x512_o0_128_S256x128 C W xs w w' cs sn := rfl
theorem kPair_1 : k0_pay157 (k0_pay152 (k0_pay149 C W) xs w cs sn) (k0_pay153 (k0_pay149 C W) xs w' cs sn) = pairR 256 384 slices_S256x512_o0_256_S256x128 slices_S256x512_o0_384_S256x128 C W xs w w' cs sn := rfl
theorem kPair_2 : k0_pay165 (k0_pay163 (k0_pay159 C W xs w cs sn)) (k0_pay164 (k0_pay160 C W xs) w' cs sn) = pairR 0 128 slices_S256x512_o0_0_S256x128 slices_S256x512_o0_128_S256x128 C W xs w w' cs sn := rfl
theorem kPair_3 : k0_pay166 (k0_pay161 (k0_pay158 C W) xs w cs sn) (k0_pay162 (k0_pay158 C W) xs w' cs sn) = pairR 256 384 slices_S256x512_o0_256_S256x128 slices_S256x512_o0_384_S256x128 C W xs w w' cs sn := rfl
theorem vPair_0 : k0_pay171 (k0_pay168 C W xs w) (k0_pay169 C W xs w') = pairP 0 128 slices_S256x512_o0_0_S256x128 slices_S256x512_o0_128_S256x128 C W xs w w' := rfl
theorem vPair_1 : k0_pay172 (k0_pay167 C W) (k0_pay170 C W xs) w xs w' = pairP 256 384 slices_S256x512_o0_256_S256x128 slices_S256x512_o0_384_S256x128 C W xs w w' := rfl
theorem vPair_2 : k0_pay175 (k0_pay173 C W) (k0_pay174 C W xs) w xs w' = pairP 0 128 slices_S256x512_o0_0_S256x128 slices_S256x512_o0_128_S256x128 C W xs w w' := rfl
theorem vPair_3 : k0_pay178 (k0_pay176 (k0_pay173 C W) xs w) (k0_pay177 (k0_pay173 C W) xs w') = pairP 256 384 slices_S256x512_o0_256_S256x128 slices_S256x512_o0_384_S256x128 C W xs w w' := rfl

end

/-! ### Read at an index -/

theorem pairV_apply (lo hi : FVec Ideal S256x128 .f32) (i : Fin 256) (b : Fin 2) (j : Fin 128) :
    pairV lo hi (ix3 i b j) = if b.val = 0 then lo (ix2 i j) else hi (ix2 i j) := by
  pointwise [pairV]
  rw [Nat.mod_eq_of_lt b.isLt]

theorem pay111_apply (C : Vec Ideal S256x4608 .fp8e4m3) (W : Vec Ideal S4608x512 .fp8e4m3) (i : Fin 256) (j : Fin 512) :
    k0_pay111 C W (ix2 i j) = ∑ k : Fin 4608, C (ix2 i k) * W (ix2 k j) := by
  pointwise [k0_pay111]

theorem headT_apply (o : ℕ) (ho : o + 128 ≤ 512) (h : S256x512.Slices ![0, o] S256x128) (C : Vec Ideal S256x4608 .fp8e4m3) (W : Vec Ideal S4608x512 .fp8e4m3)
    (xs : Vec Ideal S256x128 .f32) (ws : Vec Ideal S1x128 .f32) (i : Fin 256) (j : Fin 128) :
    headT o h C W xs ws (ix2 i j) = (∑ k : Fin 4608, C (ix2 i k) * W (ix2 k ⟨o + j.val, by omega⟩)) * xs (ix2 i j) * ws (ix2 0 j) := by
  pointwise [headT]
  rw [pay111_apply]

/-- The other half of a head. -/
def partner (j : Fin 128) : Fin 128 := ⟨(j.val + 64) % 128, Nat.mod_lt _ (by omega)⟩

theorem rotV_apply (t : FVec Ideal S256x128 .f32) (cs sn : Vec Ideal S256x128 .f32) (i : Fin 256) (j : Fin 128) :
    rotV t cs sn (ix2 i j) = t (ix2 i j) * cs (ix2 i j) + t (ix2 i (partner j)) * sn (ix2 i j) := by
  pointwise [rotV]
  rw [show partner j = ⟨(j.val + 128 - 64) % 128, Nat.mod_lt _ (by omega)⟩ from Fin.ext (by show (j.val + 64) % 128 = (j.val + 128 - 64) % 128; congr 1)]

/-! ### The packed rows unpacked -/

theorem two_rows {α : Type} {n : ℕ} (r : Fin n) (v : Fin 2 → α) (b : ℕ) (hb : b % 2 < 2) : (if b % 2 = 0 then v 0 else v 1) = v ⟨b % 2, hb⟩ := by
  by_cases h : b % 2 = 0
  · rw [if_pos h]; exact congrArg v (Fin.ext h.symm)
  · rw [if_neg h]; exact congrArg v (Fin.ext (show 1 = b % 2 by omega))

theorem pay179_apply (v : Vec Ideal S2048x2x128 .bf16) (i : Fin 4096) (j : Fin 128) :
    k0_pay179 v (ix2 i j) = v (ix3 ⟨i.val / 2, by omega⟩ ⟨i.val % 2, by omega⟩ j) := by
  pointwise [k0_pay179]
  exact two_rows i (fun b => v (ix3 ⟨i.val / 2, by omega⟩ b j)) i.val _
theorem pay180_apply (v : Vec Ideal S1024x2x128 .bf16) (i : Fin 2048) (j : Fin 128) :
    k0_pay180 v (ix2 i j) = v (ix3 ⟨i.val / 2, by omega⟩ ⟨i.val % 2, by omega⟩ j) := by
  pointwise [k0_pay180]
  exact two_rows i (fun b => v (ix3 ⟨i.val / 2, by omega⟩ b j)) i.val _
theorem pay1_apply (v : Vec Ideal S1024x2x128 .bf16) (i : Fin 2048) (j : Fin 128) :
    k0_pay1 v (ix2 i j) = v (ix3 ⟨i.val / 2, by omega⟩ ⟨i.val % 2, by omega⟩ j) := by
  pointwise [k0_pay1]
  exact two_rows i (fun b => v (ix3 ⟨i.val / 2, by omega⟩ b j)) i.val _

end Cert.KernelIdeal.Blk
-- ==== Proof.HeadBlock.lean ====
/- The heads of one block of 256 tokens, in terms of the specification: a block of the weights against the block's codes. -/
module

public import proofs.«01_k».proof.Proof.Block
public import proofs.«01_k».proof.Proof.Heads

@[expose] public section

set_option maxRecDepth 16384

noncomputable section

namespace Cert.KernelIdeal.Blk

open Cert.KernelIdeal Cert.KernelIdeal.Gen Cert.Spec Idealize.ShloMosaic Idealize.SL.Sem

variable (x : Vec Ideal S256x4608 .bf16) (g : Vec Ideal S1x4608 .f32) (W : Vec Ideal S4608x4096 .fp8e4m3) (ws : Vec Ideal S1x4096 .f32)
  (cs sn : Vec Ideal S256x128 .f32)

/-- An element of the projected block. -/
def projB (i : Fin 256) (col : Fin 4096) : EReal := proj (rowB x i) (rowG g) (fun k => W (ix2 k col)) (ws (ix2 0 col))

/-- Column `l` of head `h`. -/
def colOf (h : Fin 32) (l : Fin 128) : Fin 4096 := ⟨128 * h.val + l.val, by omega⟩

/-- An element of a rotated head. -/
def rotB (i : Fin 256) (h : Fin 32) (l : Fin 128) : EReal :=
  projB x g W ws i (colOf h l) * cs (ix2 i l) + projB x g W ws i (colOf h (partner l)) * sn (ix2 i l)

/-- Five hundred and twelve columns of the weights, and 128 of the column scales, as loaded. -/
abbrev ldW (q : ℕ) (inb : ∀ a, (![0, q] : Fin 2 → ℕ) a + S4608x512.size a ≤ S4608x4096.size a) : Vec Ideal S4608x512 .fp8e4m3 :=
  View.ld W (Rect.unit (s := S4608x4096) ![0, q] ![4608, 512] inb)
abbrev ldWs (q : ℕ) (inb : ∀ a, (![0, q] : Fin 2 → ℕ) a + S1x128.size a ≤ S1x4096.size a) : Vec Ideal S1x128 .f32 :=
  View.ld ws (Rect.unit (s := S1x4096) ![0, q] ![1, 128] inb)

theorem ldW_apply (q : ℕ) (inb) (k : Fin 4608) (j : Fin 512) (col : Fin 4096) (h : col.val = q + j.val) : ldW W q inb (ix2 k j) = W (ix2 k col) :=
  View.ld_unit_apply_of W _ _ inb _ _ fun a => by
    match a with
    | ⟨0, _⟩ => show k.val = 0 + k.val; omega
    | ⟨1, _⟩ => exact h
theorem ldWs_apply (q : ℕ) (inb) (j : Fin 128) (col : Fin 4096) (h : col.val = q + j.val) : ldWs ws q inb (ix2 0 j) = ws (ix2 0 col) :=
  View.ld_unit_apply_of ws _ _ inb _ _ fun a => by
    match a with
    | ⟨0, _⟩ => rfl
    | ⟨1, _⟩ => exact h

/-- A head before rotation. -/
theorem headT_block (q o p : ℕ) (ho : o + 128 ≤ 512) (hs : S256x512.Slices ![0, o] S256x128) (inb inb') (i : Fin 256) (j : Fin 128) (h : Fin 32)
    (hq : 128 * h.val = q + o) (hp : p = q + o) :
    headT o hs (codesV x g) (ldW W q inb) (xsV x g) (ldWs ws p inb') (ix2 i j) = projB x g W ws i (colOf h j) := by
  rw [headT_apply o ho, ldWs_apply ws p inb' j (colOf h j) (by show 128 * h.val + j.val = p + j.val; omega)]
  have hw : ∀ k : Fin 4608, ldW W q inb (ix2 k ⟨o + j.val, by omega⟩) = W (ix2 k (colOf h j)) := fun k =>
    ldW_apply W q inb k _ _ (by show 128 * h.val + j.val = q + (o + j.val); omega)
  simp only [hw]
  rfl

/-- A pair of rotated heads; -/
theorem pairR_block (q o o' p p' : ℕ) (ho : o' + 128 ≤ 512) (ho' : o' = o + 128) (hs : S256x512.Slices ![0, o] S256x128) (hs' : S256x512.Slices ![0, o'] S256x128)
    (inb inb' inb'') (i : Fin 256) (b : Fin 2) (l : Fin 128) (h : Fin 32) (hp : p = q + o) (hp' : p' = q + o') (hq : 128 * h.val = q + o + 128 * b.val) :
    pairR o o' hs hs' (codesV x g) (ldW W q inb) (xsV x g) (ldWs ws p inb') (ldWs ws p' inb'') cs sn (ix3 i b l) = rotB x g W ws cs sn i h l := by
  rw [pairR, pairV_apply]
  by_cases hb : b.val = 0
  · rw [if_pos hb, rotV_apply, headT_block x g W ws q o p (by omega) hs inb inb' i l h (by omega) hp,
      headT_block x g W ws q o p (by omega) hs inb inb' i (partner l) h (by omega) hp, rotB]
  · have hb1 : b.val = 1 := by omega
    rw [if_neg hb, rotV_apply, headT_block x g W ws q o' p' ho hs' inb inb'' i l h (by omega) hp',
      headT_block x g W ws q o' p' ho hs' inb inb'' i (partner l) h (by omega) hp', rotB]

/-- a pair of heads as they are. -/
theorem pairP_block (q o o' p p' : ℕ) (ho : o' + 128 ≤ 512) (ho' : o' = o + 128) (hs : S256x512.Slices ![0, o] S256x128) (hs' : S256x512.Slices ![0, o'] S256x128)
    (inb inb' inb'') (i : Fin 256) (b : Fin 2) (l : Fin 128) (h : Fin 32) (hp : p = q + o) (hp' : p' = q + o') (hq : 128 * h.val = q + o + 128 * b.val) :
    pairP o o' hs hs' (codesV x g) (ldW W q inb) (xsV x g) (ldWs ws p inb') (ldWs ws p' inb'') (ix3 i b l) = projB x g W ws i (colOf h l) := by
  rw [pairP, pairV_apply]
  by_cases hb : b.val = 0
  · rw [if_pos hb, headT_block x g W ws q o p (by omega) hs inb inb' i l h (by omega) hp]
  · have hb1 : b.val = 1 := by omega
    rw [if_neg hb, headT_block x g W ws q o' p' ho hs' inb inb'' i l h (by omega) hp']

end Cert.KernelIdeal.Blk
-- ==== Proof.Rope.lean ====
/- The table of cosines and sines for 512 positions, as each batch's half of the carried table is computed. -/
module

public import proofs.«01_k».proof.Proof.Gen.KernelIdeal.Skeleton
public import Idealize.ShloMosaic.PureOps.Ideal
public import Idealize.ShloMosaic.Lib.Pointwise
public import proofs.«01_k».proof.Proof.Spec

@[expose] public section

set_option maxRecDepth 16384

noncomputable section

namespace Cert.KernelIdeal.Blk

open Cert.KernelIdeal Cert.KernelIdeal.Gen Cert.Spec Idealize.ShloMosaic Idealize.SL.Sem

variable (p : IVec S1x512 32) (f : Vec Ideal S64x1 .f32)

/-- The column's frequency: both halves of a head use the same sixty-four. -/
def freq (j : Fin 128) : Fin 64 := ⟨j.val % 64, Nat.mod_lt _ (by omega)⟩

theorem pay11_eq : k0_pay11 (k0_pay10 p f) = k0_pay5 p f := rfl
theorem pay12_eq : k0_pay12 (k0_pay7 p f) (k0_pay8 p f) k0_pay9 = k0_pay6 p f := rfl

theorem pay4_apply (i : Fin 512) (j : Fin 128) : k0_pay4 (ix2 i j) = BitVec.ofBool (j.val < 64) := by
  pointwise [k0_pay4]
  revert j
  decide +kernel

theorem pay2_apply (i : Fin 512) (j : Fin 128) :
    k0_pay2 p f (ix2 i j) = if j.val < 64 then Ideal.cos (angle (p (ix2 0 i)) (f (ix2 (freq j) 0))) else Ideal.sin (angle (p (ix2 0 i)) (f (ix2 (freq j) 0))) := by
  pointwise [k0_pay2]
  have hj := j.isLt
  by_cases h : j.val < 64
  · rw [dif_pos h, if_pos h, show freq j = ⟨j.val, h⟩ from Fin.ext (Nat.mod_eq_of_lt h), angle]
  · rw [dif_neg h, if_neg h, show freq j = ⟨j.val - 64, by omega⟩ from Fin.ext (show j.val % 64 = j.val - 64 by omega), angle]

theorem pay3_apply (i : Fin 512) (j : Fin 128) :
    k0_pay3 p f (ix2 i j) = if j.val < 64 then Ideal.sin (angle (p (ix2 0 i)) (f (ix2 (freq j) 0))) else Ideal.cos (angle (p (ix2 0 i)) (f (ix2 (freq j) 0))) := by
  pointwise [k0_pay3]
  have hj := j.isLt
  rw [pay2_apply]
  rw [show freq ⟨(j.val + 128 - 64) % 128, Nat.mod_lt _ (by omega)⟩ = freq j from Fin.ext (show (j.val + 128 - 64) % 128 % 64 = j.val % 64 by omega)]
  by_cases h : j.val < 64
  · rw [if_pos h, if_neg (show ¬ (j.val + 128 - 64) % 128 < 64 by omega)]
  · rw [if_neg h, if_pos (show (j.val + 128 - 64) % 128 < 64 by omega)]

theorem pay5_apply (i : Fin 512) (j : Fin 128) : k0_pay5 p f (ix2 i j) = Ideal.cos (angle (p (ix2 0 i)) (f (ix2 (freq j) 0))) := by
  pointwise [k0_pay5]
  rw [pay4_apply, pay2_apply, pay3_apply]
  by_cases h : j.val < 64 <;> simp [h, Scalar.select]

theorem pay6_apply (i : Fin 512) (j : Fin 128) : k0_pay6 p f (ix2 i j)
    = if j.val < 64 then 0 - Ideal.sin (angle (p (ix2 0 i)) (f (ix2 (freq j) 0))) else Ideal.sin (angle (p (ix2 0 i)) (f (ix2 (freq j) 0))) := by
  pointwise [k0_pay6]
  rw [pay4_apply, pay2_apply, pay3_apply]
  by_cases h : j.val < 64 <;> simp [h, Scalar.select]

end Cert.KernelIdeal.Blk
-- ==== Proof.Target.lean ====
/- The five results as functions of the arguments: what both programs are shown to end with. -/
module

public import proofs.«01_k».proof.Proof.Operands
public import proofs.«01_k».proof.Proof.HeadBlock
public import proofs.«01_k».proof.Proof.Rope

@[expose] public section

set_option maxRecDepth 16384

noncomputable section

namespace Cert.Target

open Cert.KernelIdeal Cert.Spec Idealize.ShloMosaic Idealize.SL.Sem
open Cert.KernelIdeal.Blk (freq partner colOf)

variable (X : Vec Ideal S2x512x4608 .bf16) (G : Vec Ideal S4608 .f32) (p : Vec Ideal S2x512 .i32) (W : Vec Ideal S4608x4096 .fp8e4m3)
  (ws : Vec Ideal S4096 .f32)

/-- Token `n`, counting both batches, one after the other. -/
def tokRow (n : Fin 1024) : Row := fun k => X (ix3 ⟨n.val / 512, by omega⟩ ⟨n.val % 512, by omega⟩ k)
def gainRow : Row := fun k => G (ix1 k)

/-- Head `h` of token `n`, before rotation; -/
def head (n : Fin 1024) (h : Fin 32) (l : Fin 128) : EReal :=
  proj (tokRow X n) (gainRow G) (fun k => W (ix2 k (colOf h l))) (ws (ix1 (colOf h l)))

/-- the angle of element `l`; -/
def ang (n : Fin 1024) (l : Fin 128) : EReal :=
  angle (p (ix2 ⟨n.val / 512, by omega⟩ ⟨n.val % 512, by omega⟩)) (invFreq (freq l))

/-- and the head rotated. -/
def turned (n : Fin 1024) (h : Fin 32) (l : Fin 128) : EReal :=
  rot (l.val < 64) (head X G W ws n h l) (head X G W ws n h (partner l)) (Ideal.cos (ang p n l)) (Ideal.sin (ang p n l))

/-- The queries: row `16 n + h` is head `h` of token `n`. -/
def q (y : S16384x128.Idx) : EReal :=
  turned X G p W ws ⟨(y 0).val / 16, by have : (y 0).val < 16384 := (y 0).isLt; omega⟩ ⟨(y 0).val % 16, by omega⟩ (y 1)
/-- The keys: row `8 n + h` is head `16 + h`. -/
def k (y : S8192x128.Idx) : EReal :=
  turned X G p W ws ⟨(y 0).val / 8, by have : (y 0).val < 8192 := (y 0).isLt; omega⟩ ⟨16 + (y 0).val % 8, by omega⟩ (y 1)
/-- The values: row `8 n + h` is head `24 + h`, as it is. -/
def v (y : S8192x128.Idx) : EReal :=
  head X G W ws ⟨(y 0).val / 8, by have : (y 0).val < 8192 := (y 0).isLt; omega⟩ ⟨24 + (y 0).val % 8, by omega⟩ (y 1)
/-- The codes and the scales of every token. -/
def codes (y : S1024x4608.Idx) : EReal := code (tokRow X (y 0)) (gainRow G) (y 1)
def scales (y : S1024x1.Idx) : EReal := scale (tokRow X (y 0)) (gainRow G)

/-! The same at given coordinates. -/

theorem codes_at (z : S1024x4608.Idx) (n : Fin 1024) (d : Fin 4608) (h0 : (z 0).val = n.val) (h1 : (z 1).val = d.val) :
    codes X G z = code (tokRow X n) (gainRow G) d := by
  obtain rfl : z = ix2 n d := funext fun a => Fin.ext (by match a with | ⟨0, _⟩ => exact h0 | ⟨1, _⟩ => exact h1)
  rfl

theorem scales_at (z : S1024x1.Idx) (n : Fin 1024) (h0 : (z 0).val = n.val) : scales X G z = scale (tokRow X n) (gainRow G) :=
  congrArg (fun j : Fin 1024 => scale (tokRow X j) (gainRow G)) (Fin.ext h0)

theorem q_at (z : S16384x128.Idx) (n : Fin 1024) (h : Fin 32) (l : Fin 128) (hh : h.val < 16) (h0 : (z 0).val = 16 * n.val + h.val)
    (h1 : (z 1).val = l.val) : q X G p W ws z = turned X G p W ws n h l := by
  obtain rfl : z = ix2 ⟨16 * n.val + h.val, by clear h0 h1; omega⟩ l := funext fun a => Fin.ext (by match a with | ⟨0, _⟩ => exact h0 | ⟨1, _⟩ => exact h1)
  have e0 : (⟨(16 * n.val + h.val) / 16, by omega⟩ : Fin 1024) = n := Fin.ext (by show (16 * n.val + h.val) / 16 = n.val; omega)
  have e1 : (⟨(16 * n.val + h.val) % 16, by omega⟩ : Fin 32) = h := Fin.ext (by show (16 * n.val + h.val) % 16 = h.val; omega)
  show turned X G p W ws ⟨(16 * n.val + h.val) / 16, _⟩ ⟨(16 * n.val + h.val) % 16, _⟩ l = _
  rw [e0, e1]

theorem k_at (z : S8192x128.Idx) (n : Fin 1024) (h : Fin 32) (l : Fin 128) (hh : 16 ≤ h.val ∧ h.val < 24) (h0 : (z 0).val + 16 = 8 * n.val + h.val)
    (h1 : (z 1).val = l.val) : k X G p W ws z = turned X G p W ws n h l := by
  obtain rfl : z = ix2 ⟨8 * n.val + (h.val - 16), by clear h0 h1; omega⟩ l :=
    funext fun a => Fin.ext (by match a with | ⟨0, _⟩ => show (z 0).val = 8 * n.val + (h.val - 16); omega | ⟨1, _⟩ => exact h1)
  have e0 : (⟨(8 * n.val + (h.val - 16)) / 8, by omega⟩ : Fin 1024) = n := Fin.ext (by show (8 * n.val + (h.val - 16)) / 8 = n.val; omega)
  have e1 : (⟨16 + (8 * n.val + (h.val - 16)) % 8, by omega⟩ : Fin 32) = h := Fin.ext (by show 16 + (8 * n.val + (h.val - 16)) % 8 = h.val; omega)
  show turned X G p W ws ⟨(8 * n.val + (h.val - 16)) / 8, _⟩ ⟨16 + (8 * n.val + (h.val - 16)) % 8, _⟩ l = _
  rw [e0, e1]

theorem v_at (z : S8192x128.Idx) (n : Fin 1024) (h : Fin 32) (l : Fin 128) (hh : 24 ≤ h.val) (h0 : (z 0).val + 24 = 8 * n.val + h.val)
    (h1 : (z 1).val = l.val) : v X G W ws z = head X G W ws n h l := by
  obtain rfl : z = ix2 ⟨8 * n.val + (h.val - 24), by clear h0 h1; omega⟩ l :=
    funext fun a => Fin.ext (by match a with | ⟨0, _⟩ => show (z 0).val = 8 * n.val + (h.val - 24); omega | ⟨1, _⟩ => exact h1)
  have e0 : (⟨(8 * n.val + (h.val - 24)) / 8, by omega⟩ : Fin 1024) = n := Fin.ext (by show (8 * n.val + (h.val - 24)) / 8 = n.val; omega)
  have e1 : (⟨24 + (8 * n.val + (h.val - 24)) % 8, by omega⟩ : Fin 32) = h := Fin.ext (by show 24 + (8 * n.val + (h.val - 24)) % 8 = h.val; omega)
  show head X G W ws ⟨(8 * n.val + (h.val - 24)) / 8, _⟩ ⟨24 + (8 * n.val + (h.val - 24)) % 8, _⟩ l = _
  rw [e0, e1]

end Cert.Target
-- ==== Proof.OutCodes.lean ====
/- What the kernel stores of codes and scales at each grid point. -/
module

public import proofs.«01_k».proof.Proof.Gen.KernelIdeal.Frame
public import proofs.«01_k».proof.Proof.Block

@[expose] public section

set_option maxRecDepth 16384

noncomputable section

namespace Cert.KernelIdeal.Blk

open Cert.KernelIdeal Cert.KernelIdeal.Gen Idealize.ShloMosaic Idealize.ShloMosaic.TcCoe Idealize.SL.Sem

variable (m : (ℓ : Loc nD τ sig) → Buf (Elt Ideal) ℓ)

/-- The block of codes. -/
theorem out_codes (c : Dev nD) (t : Fin cfg0.N) (y : S256x4608.Idx) :
    (outsAt0 m c t.val t.isLt).2.2.2.1 y = codesV (iblk m c 0 t) (iblk m c 1 t) y := by
  rcases Classical.em (t.val % 4 = 0) with h0 | h0
  all_goals
    first
      | rw [outsAt0_A m c t h0]
      | rw [outsAt0_B m c t h0]
    dsimp only
    frame_open
    simp (disch := decide) only [↓ View.readCov_skip, ↓ View.readCov_cons_toLoadRect, ↓ View.readCov_fill]
    frame_out
    rw [grpCodes_0, grpCodes_1, grpCodes_2, grpCodes_3, grpCodes_4, grpCodes_5, grpCodes_6, grpCodes_7]
    exact congrFun (codes_canon _ _) y

/-- The block of scales. -/
theorem out_scales (c : Dev nD) (t : Fin cfg0.N) (y : S256x1.Idx) :
    (outsAt0 m c t.val t.isLt).2.2.2.2.1 y = scalesV (iblk m c 0 t) (iblk m c 1 t) y := by
  rcases Classical.em (t.val % 4 = 0) with h0 | h0
  all_goals
    first
      | rw [outsAt0_A m c t h0]
      | rw [outsAt0_B m c t h0]
    dsimp only
    frame_open
    simp (disch := decide) only [↓ View.readCov_skip, ↓ View.readCov_cons_toLoadRect, ↓ View.readCov_fill]
    frame_out
    rw [grpScale_0, grpScale_1, grpScale_2, grpScale_3, grpScale_4, grpScale_5, grpScale_6, grpScale_7]
    exact congrFun (scales_canon _ _) y

end Cert.KernelIdeal.Blk
-- ==== Proof.Packed.lean ====
/- A scratch of packed rows written one row of every group at a time and read back whole. -/
module

public import Idealize.ShloMosaic.Lib.Pipeline.ValueKit
public import Idealize.ShloMosaic.Lib.Pipeline.ReadBack

@[expose] public section

noncomputable section

namespace Cert.Packed

open Idealize.ShloMosaic

variable {Val : EltTy → Type} [∀ e, Nonempty (Val e)] {e : EltTy} {sig : RefSig} {κ : Kind} {sp' : Space}

section

variable {R : ℕ} (n k : ℕ)

/-- A store whose payload is `G` at rows `k`, `n + k`, `2 n + k`, …: at each of its own indices it is `G` there. -/
theorem piece_emb (G : (⟨3, ![R, 2, 128]⟩ : Shape).Idx → Val e) (w : (⟨3, ![256, 2, 128]⟩ : Shape).Idx → Val e)
    (inb : ∀ a, (![256, 2, 128] : Fin 3 → ℕ) a = 0 ∨ (![k, 0, 0] : Fin 3 → ℕ) a + (![n, 1, 1] : Fin 3 → ℕ) a * ((![256, 2, 128] : Fin 3 → ℕ) a - 1) < (⟨3, ![R, 2, 128]⟩ : Shape).size a)
    (sp : ∀ a, 0 < (![n, 1, 1] : Fin 3 → ℕ) a)
    (h : ∀ (i : Fin 256) (b : Fin 2) (l : Fin 128), ∃ hr : n * i.val + k < R, w (ix3 i b l) = G (ix3 ⟨n * i.val + k, hr⟩ b l))
    (z : (⟨3, ![256, 2, 128]⟩ : Shape).Idx) :
    w z = G (({ off := ![k, 0, 0], size := ![256, 2, 128], stride := ![n, 1, 1], inb := inb, stride_pos := sp } : Rect ⟨3, ![R, 2, 128]⟩).emb z) := by
  idx_vars z
  obtain ⟨hr, hw⟩ := h z0 z1 z2
  refine hw.trans (congrArg G (funext fun a => Fin.ext ?_))
  match a with
  | ⟨0, _⟩ => show n * z0.val + k = k + n * z0.val; omega
  | ⟨1, _⟩ => show z1.val = 0 + 1 * z1.val; omega
  | ⟨2, _⟩ => show z2.val = 0 + 1 * z2.val; omega

theorem mem_piece
    (inb : ∀ a, (![256, 2, 128] : Fin 3 → ℕ) a = 0 ∨ (![k, 0, 0] : Fin 3 → ℕ) a + (![n, 1, 1] : Fin 3 → ℕ) a * ((![256, 2, 128] : Fin 3 → ℕ) a - 1) < (⟨3, ![R, 2, 128]⟩ : Shape).size a)
    (sp : ∀ a, 0 < (![n, 1, 1] : Fin 3 → ℕ) a) (y : (⟨3, ![R, 2, 128]⟩ : Shape).Idx) (q : ℕ) (hq : q < 256) (h : (y 0).val = k + n * q) :
    y ∈ ({ off := ![k, 0, 0], size := ![256, 2, 128], stride := ![n, 1, 1], inb := inb, stride_pos := sp } : Rect ⟨3, ![R, 2, 128]⟩).set := by
  rw [LoadRect.mem_set]
  intro a
  match a with
  | ⟨0, _⟩ => exact ⟨q, hq, h⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩

end

/-- 8 stores, each of one row of every 8: read back whole. -/
theorem read8 {v : View sig κ sp' ⟨3, ![2048, 2, 128]⟩ e} {sp : ∀ a, 0 < (![8, 1, 1] : Fin 3 → ℕ) a}
    {i7 : ∀ a, (![256, 2, 128] : Fin 3 → ℕ) a = 0 ∨ (![7, 0, 0] : Fin 3 → ℕ) a + (![8, 1, 1] : Fin 3 → ℕ) a * ((![256, 2, 128] : Fin 3 → ℕ) a - 1) < (⟨3, ![2048, 2, 128]⟩ : Shape).size a}
    {i6 : ∀ a, (![256, 2, 128] : Fin 3 → ℕ) a = 0 ∨ (![6, 0, 0] : Fin 3 → ℕ) a + (![8, 1, 1] : Fin 3 → ℕ) a * ((![256, 2, 128] : Fin 3 → ℕ) a - 1) < (⟨3, ![2048, 2, 128]⟩ : Shape).size a}
    {i5 : ∀ a, (![256, 2, 128] : Fin 3 → ℕ) a = 0 ∨ (![5, 0, 0] : Fin 3 → ℕ) a + (![8, 1, 1] : Fin 3 → ℕ) a * ((![256, 2, 128] : Fin 3 → ℕ) a - 1) < (⟨3, ![2048, 2, 128]⟩ : Shape).size a}
    {i4 : ∀ a, (![256, 2, 128] : Fin 3 → ℕ) a = 0 ∨ (![4, 0, 0] : Fin 3 → ℕ) a + (![8, 1, 1] : Fin 3 → ℕ) a * ((![256, 2, 128] : Fin 3 → ℕ) a - 1) < (⟨3, ![2048, 2, 128]⟩ : Shape).size a}
    {i3 : ∀ a, (![256, 2, 128] : Fin 3 → ℕ) a = 0 ∨ (![3, 0, 0] : Fin 3 → ℕ) a + (![8, 1, 1] : Fin 3 → ℕ) a * ((![256, 2, 128] : Fin 3 → ℕ) a - 1) < (⟨3, ![2048, 2, 128]⟩ : Shape).size a}
    {i2 : ∀ a, (![256, 2, 128] : Fin 3 → ℕ) a = 0 ∨ (![2, 0, 0] : Fin 3 → ℕ) a + (![8, 1, 1] : Fin 3 → ℕ) a * ((![256, 2, 128] : Fin 3 → ℕ) a - 1) < (⟨3, ![2048, 2, 128]⟩ : Shape).size a}
    {i1 : ∀ a, (![256, 2, 128] : Fin 3 → ℕ) a = 0 ∨ (![1, 0, 0] : Fin 3 → ℕ) a + (![8, 1, 1] : Fin 3 → ℕ) a * ((![256, 2, 128] : Fin 3 → ℕ) a - 1) < (⟨3, ![2048, 2, 128]⟩ : Shape).size a}
    {i0 : ∀ a, (![256, 2, 128] : Fin 3 → ℕ) a = 0 ∨ (![0, 0, 0] : Fin 3 → ℕ) a + (![8, 1, 1] : Fin 3 → ℕ) a * ((![256, 2, 128] : Fin 3 → ℕ) a - 1) < (⟨3, ![2048, 2, 128]⟩ : Shape).size a}
    {ib : ∀ a, (![0, 0, 0] : Fin 3 → ℕ) a + (![2048, 2, 128] : Fin 3 → ℕ) a ≤ (⟨3, ![2048, 2, 128]⟩ : Shape).size a}
    {w7 w6 w5 w4 w3 w2 w1 w0 : (⟨3, ![256, 2, 128]⟩ : Shape).Idx → Val e} {G : (⟨3, ![2048, 2, 128]⟩ : Shape).Idx → Val e}
    (h7 : ∀ (i : Fin 256) (b : Fin 2) (l : Fin 128), w7 (ix3 i b l) = G (ix3 ⟨8 * i.val + 7, by omega⟩ b l))
    (h6 : ∀ (i : Fin 256) (b : Fin 2) (l : Fin 128), w6 (ix3 i b l) = G (ix3 ⟨8 * i.val + 6, by omega⟩ b l))
    (h5 : ∀ (i : Fin 256) (b : Fin 2) (l : Fin 128), w5 (ix3 i b l) = G (ix3 ⟨8 * i.val + 5, by omega⟩ b l))
    (h4 : ∀ (i : Fin 256) (b : Fin 2) (l : Fin 128), w4 (ix3 i b l) = G (ix3 ⟨8 * i.val + 4, by omega⟩ b l))
    (h3 : ∀ (i : Fin 256) (b : Fin 2) (l : Fin 128), w3 (ix3 i b l) = G (ix3 ⟨8 * i.val + 3, by omega⟩ b l))
    (h2 : ∀ (i : Fin 256) (b : Fin 2) (l : Fin 128), w2 (ix3 i b l) = G (ix3 ⟨8 * i.val + 2, by omega⟩ b l))
    (h1 : ∀ (i : Fin 256) (b : Fin 2) (l : Fin 128), w1 (ix3 i b l) = G (ix3 ⟨8 * i.val + 1, by omega⟩ b l))
    (h0 : ∀ (i : Fin 256) (b : Fin 2) (l : Fin 128), w0 (ix3 i b l) = G (ix3 ⟨8 * i.val + 0, by omega⟩ b l)) :
    v.readCov
      [⟨{ off := ![7, 0, 0], size := ![256, 2, 128], stride := ![8, 1, 1], inb := i7, stride_pos := sp }, w7⟩,
       ⟨{ off := ![6, 0, 0], size := ![256, 2, 128], stride := ![8, 1, 1], inb := i6, stride_pos := sp }, w6⟩,
       ⟨{ off := ![5, 0, 0], size := ![256, 2, 128], stride := ![8, 1, 1], inb := i5, stride_pos := sp }, w5⟩,
       ⟨{ off := ![4, 0, 0], size := ![256, 2, 128], stride := ![8, 1, 1], inb := i4, stride_pos := sp }, w4⟩,
       ⟨{ off := ![3, 0, 0], size := ![256, 2, 128], stride := ![8, 1, 1], inb := i3, stride_pos := sp }, w3⟩,
       ⟨{ off := ![2, 0, 0], size := ![256, 2, 128], stride := ![8, 1, 1], inb := i2, stride_pos := sp }, w2⟩,
       ⟨{ off := ![1, 0, 0], size := ![256, 2, 128], stride := ![8, 1, 1], inb := i1, stride_pos := sp }, w1⟩,
       ⟨{ off := ![0, 0, 0], size := ![256, 2, 128], stride := ![8, 1, 1], inb := i0, stride_pos := sp }, w0⟩]
      (Rect.unit (s := ⟨3, ![2048, 2, 128]⟩) ![0, 0, 0] ![2048, 2, 128] ib).toLoadRect = G := by
  rw [View.readCov_eq_canon']
  funext y
  have hidx : (Rect.unit (s := ⟨3, ![2048, 2, 128]⟩) ![0, 0, 0] ![2048, 2, 128] ib).toLoadRect.idx y = y := by
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [hidx]
  have hy : (y 0).val < 2048 := (y 0).isLt
  have hy1 : (y 1).val < 2 := (y 1).isLt
  have hy2 : (y 2).val < 128 := (y 2).isLt
  refine View.canon_apply_of_pieces G _ (fun p hp => ?_) y ?_
  · simp only [List.mem_cons, List.not_mem_nil, or_false] at hp
    obtain rfl | rfl | rfl | rfl | rfl | rfl | rfl | rfl := hp
    · exact piece_emb 8 7 G _ i7 sp (fun i b l => ⟨_, h7 i b l⟩)
    · exact piece_emb 8 6 G _ i6 sp (fun i b l => ⟨_, h6 i b l⟩)
    · exact piece_emb 8 5 G _ i5 sp (fun i b l => ⟨_, h5 i b l⟩)
    · exact piece_emb 8 4 G _ i4 sp (fun i b l => ⟨_, h4 i b l⟩)
    · exact piece_emb 8 3 G _ i3 sp (fun i b l => ⟨_, h3 i b l⟩)
    · exact piece_emb 8 2 G _ i2 sp (fun i b l => ⟨_, h2 i b l⟩)
    · exact piece_emb 8 1 G _ i1 sp (fun i b l => ⟨_, h1 i b l⟩)
    · exact piece_emb 8 0 G _ i0 sp (fun i b l => ⟨_, h0 i b l⟩)
  · obtain h | h | h | h | h | h | h | h : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    · exact ⟨_, List.mem_cons_self, mem_piece 8 7 i7 sp y ((y 0).val / 8) (by omega) (by omega)⟩
    · exact ⟨_, List.mem_cons_of_mem _ (List.mem_cons_self), mem_piece 8 6 i6 sp y ((y 0).val / 8) (by omega) (by omega)⟩
    · exact ⟨_, List.mem_cons_of_mem _ (List.mem_cons_of_mem _ (List.mem_cons_self)), mem_piece 8 5 i5 sp y ((y 0).val / 8) (by omega) (by omega)⟩
    · exact ⟨_, List.mem_cons_of_mem _ (List.mem_cons_of_mem _ (List.mem_cons_of_mem _ (List.mem_cons_self))), mem_piece 8 4 i4 sp y ((y 0).val / 8) (by omega) (by omega)⟩
    · exact ⟨_, List.mem_cons_of_mem _ (List.mem_cons_of_mem _ (List.mem_cons_of_mem _ (List.mem_cons_of_mem _ (List.mem_cons_self)))), mem_piece 8 3 i3 sp y ((y 0).val / 8) (by omega) (by omega)⟩
    · exact ⟨_, List.mem_cons_of_mem _ (List.mem_cons_of_mem _ (List.mem_cons_of_mem _ (List.mem_cons_of_mem _ (List.mem_cons_of_mem _ (List.mem_cons_self))))), mem_piece 8 2 i2 sp y ((y 0).val / 8) (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_piece 8 1 i1 sp y ((y 0).val / 8) (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 8 0 i0 sp y ((y 0).val / 8) (by omega) (by omega)⟩

/-- 4 stores, each of one row of every 4: read back whole. -/
theorem read4 {v : View sig κ sp' ⟨3, ![1024, 2, 128]⟩ e} {sp : ∀ a, 0 < (![4, 1, 1] : Fin 3 → ℕ) a}
    {i3 : ∀ a, (![256, 2, 128] : Fin 3 → ℕ) a = 0 ∨ (![3, 0, 0] : Fin 3 → ℕ) a + (![4, 1, 1] : Fin 3 → ℕ) a * ((![256, 2, 128] : Fin 3 → ℕ) a - 1) < (⟨3, ![1024, 2, 128]⟩ : Shape).size a}
    {i2 : ∀ a, (![256, 2, 128] : Fin 3 → ℕ) a = 0 ∨ (![2, 0, 0] : Fin 3 → ℕ) a + (![4, 1, 1] : Fin 3 → ℕ) a * ((![256, 2, 128] : Fin 3 → ℕ) a - 1) < (⟨3, ![1024, 2, 128]⟩ : Shape).size a}
    {i1 : ∀ a, (![256, 2, 128] : Fin 3 → ℕ) a = 0 ∨ (![1, 0, 0] : Fin 3 → ℕ) a + (![4, 1, 1] : Fin 3 → ℕ) a * ((![256, 2, 128] : Fin 3 → ℕ) a - 1) < (⟨3, ![1024, 2, 128]⟩ : Shape).size a}
    {i0 : ∀ a, (![256, 2, 128] : Fin 3 → ℕ) a = 0 ∨ (![0, 0, 0] : Fin 3 → ℕ) a + (![4, 1, 1] : Fin 3 → ℕ) a * ((![256, 2, 128] : Fin 3 → ℕ) a - 1) < (⟨3, ![1024, 2, 128]⟩ : Shape).size a}
    {ib : ∀ a, (![0, 0, 0] : Fin 3 → ℕ) a + (![1024, 2, 128] : Fin 3 → ℕ) a ≤ (⟨3, ![1024, 2, 128]⟩ : Shape).size a}
    {w3 w2 w1 w0 : (⟨3, ![256, 2, 128]⟩ : Shape).Idx → Val e} {G : (⟨3, ![1024, 2, 128]⟩ : Shape).Idx → Val e}
    (h3 : ∀ (i : Fin 256) (b : Fin 2) (l : Fin 128), w3 (ix3 i b l) = G (ix3 ⟨4 * i.val + 3, by omega⟩ b l))
    (h2 : ∀ (i : Fin 256) (b : Fin 2) (l : Fin 128), w2 (ix3 i b l) = G (ix3 ⟨4 * i.val + 2, by omega⟩ b l))
    (h1 : ∀ (i : Fin 256) (b : Fin 2) (l : Fin 128), w1 (ix3 i b l) = G (ix3 ⟨4 * i.val + 1, by omega⟩ b l))
    (h0 : ∀ (i : Fin 256) (b : Fin 2) (l : Fin 128), w0 (ix3 i b l) = G (ix3 ⟨4 * i.val + 0, by omega⟩ b l)) :
    v.readCov
      [⟨{ off := ![3, 0, 0], size := ![256, 2, 128], stride := ![4, 1, 1], inb := i3, stride_pos := sp }, w3⟩,
       ⟨{ off := ![2, 0, 0], size := ![256, 2, 128], stride := ![4, 1, 1], inb := i2, stride_pos := sp }, w2⟩,
       ⟨{ off := ![1, 0, 0], size := ![256, 2, 128], stride := ![4, 1, 1], inb := i1, stride_pos := sp }, w1⟩,
       ⟨{ off := ![0, 0, 0], size := ![256, 2, 128], stride := ![4, 1, 1], inb := i0, stride_pos := sp }, w0⟩]
      (Rect.unit (s := ⟨3, ![1024, 2, 128]⟩) ![0, 0, 0] ![1024, 2, 128] ib).toLoadRect = G := by
  rw [View.readCov_eq_canon']
  funext y
  have hidx : (Rect.unit (s := ⟨3, ![1024, 2, 128]⟩) ![0, 0, 0] ![1024, 2, 128] ib).toLoadRect.idx y = y := by
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [hidx]
  have hy : (y 0).val < 1024 := (y 0).isLt
  have hy1 : (y 1).val < 2 := (y 1).isLt
  have hy2 : (y 2).val < 128 := (y 2).isLt
  refine View.canon_apply_of_pieces G _ (fun p hp => ?_) y ?_
  · simp only [List.mem_cons, List.not_mem_nil, or_false] at hp
    obtain rfl | rfl | rfl | rfl := hp
    · exact piece_emb 4 3 G _ i3 sp (fun i b l => ⟨_, h3 i b l⟩)
    · exact piece_emb 4 2 G _ i2 sp (fun i b l => ⟨_, h2 i b l⟩)
    · exact piece_emb 4 1 G _ i1 sp (fun i b l => ⟨_, h1 i b l⟩)
    · exact piece_emb 4 0 G _ i0 sp (fun i b l => ⟨_, h0 i b l⟩)
  · obtain h | h | h | h : (y 0).val % 4 = 3 ∨ (y 0).val % 4 = 2 ∨ (y 0).val % 4 = 1 ∨ (y 0).val % 4 = 0 := by omega
    · exact ⟨_, List.mem_cons_self, mem_piece 4 3 i3 sp y ((y 0).val / 4) (by omega) (by omega)⟩
    · exact ⟨_, List.mem_cons_of_mem _ (List.mem_cons_self), mem_piece 4 2 i2 sp y ((y 0).val / 4) (by omega) (by omega)⟩
    · exact ⟨_, List.mem_cons_of_mem _ (List.mem_cons_of_mem _ (List.mem_cons_self)), mem_piece 4 1 i1 sp y ((y 0).val / 4) (by omega) (by omega)⟩
    · exact ⟨_, List.mem_cons_of_mem _ (List.mem_cons_of_mem _ (List.mem_cons_of_mem _ (List.mem_cons_self))), mem_piece 4 0 i0 sp y ((y 0).val / 4) (by omega) (by omega)⟩

end Cert.Packed
-- ==== Proof.RopeTable.lean ====
/- The table of cosines and sines every grid point finds: computed at the first point, carried unchanged after. -/
module

public import proofs.«01_k».proof.Proof.Rope
public import proofs.«01_k».proof.Proof.Operands
public import Idealize.ShloMosaic.Lib.Pipeline.ReadBack

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

/-- The angle of token `n` (of both batches, one after the other) in column `j` of a head. -/
def tokAngle (p : Vec Ideal S2x512 .i32) (f : Vec Ideal S64x1 .f32) (n : Fin 1024) (j : Fin 128) : EReal :=
  angle (p (ix2 ⟨n.val / 512, by omega⟩ ⟨n.val % 512, by omega⟩)) (f (ix2 (freq j) 0))

/-- The cosines. -/
def cosT (p : Vec Ideal S2x512 .i32) (f : Vec Ideal S64x1 .f32) (y : S1024x128.Idx) : EReal := Ideal.cos (tokAngle p f (y 0) (y 1))
/-- The sines, of the first half of a head negated. -/
def sinT (p : Vec Ideal S2x512 .i32) (f : Vec Ideal S64x1 .f32) (y : S1024x128.Idx) : EReal :=
  if (y 1).val < 64 then 0 - Ideal.sin (tokAngle p f (y 0) (y 1)) else Ideal.sin (tokAngle p f (y 0) (y 1))

theorem halves_canon {i1 : ∀ a, (![512, 0] : Fin 2 → ℕ) a + (![512, 128] : Fin 2 → ℕ) a ≤ S1024x128.size a}
    {i0 : ∀ a, (![0, 0] : Fin 2 → ℕ) a + (![512, 128] : Fin 2 → ℕ) a ≤ S1024x128.size a} {w1 w0 : S512x128.Idx → EReal} {G : S1024x128.Idx → EReal}
    (h1 : ∀ (i : Fin 512) (j : Fin 128), w1 (ix2 i j) = G (ix2 ⟨512 + i.val, by omega⟩ j))
    (h0 : ∀ (i : Fin 512) (j : Fin 128), w0 (ix2 i j) = G (ix2 ⟨i.val, by omega⟩ j)) :
    View.canon (Val := Elt Ideal) (e := .f32) [⟨Rect.unit ![512, 0] ![512, 128] i1, w1⟩, ⟨Rect.unit ![0, 0] ![512, 128] i0, w0⟩] = G := by
  funext y
  have hy : (y 0).val < 1024 := (y 0).isLt
  have hy1 : (y 1).val < 128 := (y 1).isLt
  refine View.canon_apply_of_pieces (Val := Elt Ideal) (e := .f32) G _ (fun p hp => ?_) y ?_
  · simp only [List.mem_cons, List.not_mem_nil, or_false] at hp
    obtain rfl | rfl := hp
    · intro (z : S512x128.Idx)
      idx_vars z
      refine (h1 _ _).trans (congrArg G (funext fun a => Fin.ext ?_))
      match a with
      | ⟨0, _⟩ => show 512 + z0.val = 512 + 1 * z0.val; omega
      | ⟨1, _⟩ => show z1.val = 0 + 1 * z1.val; omega
    · intro (z : S512x128.Idx)
      idx_vars z
      refine (h0 _ _).trans (congrArg G (funext fun a => Fin.ext ?_))
      match a with
      | ⟨0, _⟩ => show z0.val = 0 + 1 * z0.val; omega
      | ⟨1, _⟩ => show z1.val = 0 + 1 * z1.val; omega
  · by_cases h : 512 ≤ (y 0).val
    · refine ⟨_, List.mem_cons_self, (Rect.mem_set_unit (inb := i1)).2 fun a => ?_⟩
      match a with
      | ⟨0, _⟩ => exact ⟨h, hy⟩
      | ⟨1, _⟩ => exact ⟨Nat.zero_le _, by show (y 1).val < 0 + 128; omega⟩
    · refine ⟨_, List.mem_cons_of_mem _ List.mem_cons_self, (Rect.mem_set_unit (inb := i0)).2 fun a => ?_⟩
      match a with
      | ⟨0, _⟩ => exact ⟨Nat.zero_le _, by show (y 0).val < 0 + 512; omega⟩
      | ⟨1, _⟩ => exact ⟨Nat.zero_le _, by show (y 1).val < 0 + 128; omega⟩

variable (p : Vec Ideal S2x512 .i32) (f : Vec Ideal S64x1 .f32)

/-- A batch's positions, loaded as a row. -/
abbrev ldPos (p : Vec Ideal S2x512 .i32) (b : ℕ) (inb : ∀ a, (![b, 0] : Fin 2 → ℕ) a + (![1, 512] : Fin 2 → ℕ) a ≤ S2x512.size a) : Vec Ideal S1x512 .i32 :=
  View.ld p (Rect.unit (s := S2x512) ![b, 0] ![1, 512] inb)

theorem ld_pos (b : Fin 2) (inb : ∀ a, (![b.val, 0] : Fin 2 → ℕ) a + (![1, 512] : Fin 2 → ℕ) a ≤ S2x512.size a) (i : Fin 512) :
    ldPos p b.val inb (ix2 0 i) = p (ix2 b i) :=
  View.ld_unit_apply_of p _ _ inb _ _ fun a => by
    match a with
    | ⟨0, _⟩ => show b.val = b.val + 0; omega
    | ⟨1, _⟩ => show i.val = 0 + i.val; omega

theorem tokAngle_half (b : Fin 2) (i : Fin 512) (j : Fin 128) (n : Fin 1024) (h : n.val = 512 * b.val + i.val) :
    tokAngle p f n j = angle (p (ix2 b i)) (f (ix2 (freq j) 0)) := by
  have hb : (⟨n.val / 512, by omega⟩ : Fin 2) = b := Fin.ext (by show n.val / 512 = b.val; omega)
  have hi : (⟨n.val % 512, by omega⟩ : Fin 512) = i := Fin.ext (by show n.val % 512 = i.val; omega)
  rw [tokAngle, hb, hi]

theorem cos_apply (n : Fin 1024) (j : Fin 128) : cosT p f (ix2 n j) = Ideal.cos (tokAngle p f n j) := rfl
theorem sin_apply (n : Fin 1024) (j : Fin 128) : sinT p f (ix2 n j)
    = if j.val < 64 then 0 - Ideal.sin (tokAngle p f n j) else Ideal.sin (tokAngle p f n j) := rfl

theorem cos_canon : View.canon (Val := Elt Ideal) (e := .f32)
    [⟨Rect.unit ![512, 0] ![512, 128] inb_S1024x128_S512x128_512_0, k0_pay5 (ldPos p 1 inb_S2x512_S1x512_1_0) f⟩,
     ⟨Rect.unit ![0, 0] ![512, 128] inb_S1024x128_S512x128_0_0, k0_pay5 (ldPos p 0 inb_S2x512_S1x512_0_0) f⟩] = cosT p f := by
  refine halves_canon (fun i j => ?_) fun i j => ?_
  · rw [pay5_apply, cos_apply, tokAngle_half p f 1 i j ⟨512 + i.val, by omega⟩ rfl]
    erw [ld_pos p 1]
  · rw [pay5_apply, cos_apply, tokAngle_half p f 0 i j ⟨i.val, by omega⟩ (by simp)]
    erw [ld_pos p 0]

theorem sin_canon : View.canon (Val := Elt Ideal) (e := .f32)
    [⟨Rect.unit ![512, 0] ![512, 128] inb_S1024x128_S512x128_512_0, k0_pay6 (ldPos p 1 inb_S2x512_S1x512_1_0) f⟩,
     ⟨Rect.unit ![0, 0] ![512, 128] inb_S1024x128_S512x128_0_0, k0_pay6 (ldPos p 0 inb_S2x512_S1x512_0_0) f⟩] = sinT p f := by
  refine halves_canon (fun i j => ?_) fun i j => ?_
  · rw [pay6_apply, sin_apply, tokAngle_half p f 1 i j ⟨512 + i.val, by omega⟩ rfl]
    erw [ld_pos p 1]
  · rw [pay6_apply, sin_apply, tokAngle_half p f 0 i j ⟨i.val, by omega⟩ (by simp)]
    erw [ld_pos p 0]

variable (m : (ℓ : Loc nD τ sig) → Buf (Elt Ideal) ℓ)

/-- The first point writes the table; -/
theorem out_cos_first (c : Dev nD) (t : Fin cfg0.N) (h0 : t.val % 4 = 0) (y : S1024x128.Idx) :
    (outsAt0 m c t.val t.isLt).2.2.2.2.2.1 y = cosT (iblk m c 2 t) (iblk m c 3 t) y := by
  rw [outsAt0_A m c t h0]
  dsimp only
  frame_open
  simp (disch := decide) only [↓ View.readCov_skip, ↓ View.readCov_cons_toLoadRect, ↓ View.readCov_fill]
  frame_out
  rw [pay11_eq]
  exact congrFun (cos_canon _ _) y

theorem out_sin_first (c : Dev nD) (t : Fin cfg0.N) (h0 : t.val % 4 = 0) (y : S1024x128.Idx) :
    (outsAt0 m c t.val t.isLt).2.2.2.2.2.2 y = sinT (iblk m c 2 t) (iblk m c 3 t) y := by
  rw [outsAt0_A m c t h0]
  dsimp only
  frame_open
  simp (disch := decide) only [↓ View.readCov_skip, ↓ View.readCov_cons_toLoadRect, ↓ View.readCov_fill]
  frame_out
  rw [pay12_eq]
  exact congrFun (sin_canon _ _) y

/-- a later point leaves it as it found it. -/
theorem out_cos_next (c : Dev nD) (t : Fin cfg0.N) (h0 : ¬ t.val % 4 = 0) (y : S1024x128.Idx) :
    (outsAt0 m c t.val t.isLt).2.2.2.2.2.1 y = (outsAt0 m c (t.val - 1) (by have := t.isLt; omega)).2.2.2.2.2.1 y := by
  rw [outsAt0_B m c t h0]
  rfl

theorem out_sin_next (c : Dev nD) (t : Fin cfg0.N) (h0 : ¬ t.val % 4 = 0) (y : S1024x128.Idx) :
    (outsAt0 m c t.val t.isLt).2.2.2.2.2.2 y = (outsAt0 m c (t.val - 1) (by have := t.isLt; omega)).2.2.2.2.2.2 y := by
  rw [outsAt0_B m c t h0]
  rfl

/-- So every point ends with it. -/
theorem out_cos (c : Dev nD) : ∀ (n : ℕ) (hn : n < cfg0.N) (y : S1024x128.Idx),
    (outsAt0 m c n hn).2.2.2.2.2.1 y = cosT (V m c main_arg2) (V m c main_v12) y
  | 0, hn, y => by rw [out_cos_first m c ⟨0, hn⟩ rfl y, iblk2_eq, iblk3_eq]
  | n + 1, hn, y => by
    have hn4 : n + 1 < 4 := points ⟨n + 1, hn⟩
    rw [out_cos_next m c ⟨n + 1, hn⟩ (by show ¬ (n + 1) % 4 = 0; omega) y]
    exact out_cos c n (by omega) y

theorem out_sin (c : Dev nD) : ∀ (n : ℕ) (hn : n < cfg0.N) (y : S1024x128.Idx),
    (outsAt0 m c n hn).2.2.2.2.2.2 y = sinT (V m c main_arg2) (V m c main_v12) y
  | 0, hn, y => by rw [out_sin_first m c ⟨0, hn⟩ rfl y, iblk2_eq, iblk3_eq]
  | n + 1, hn, y => by
    have hn4 : n + 1 < 4 := points ⟨n + 1, hn⟩
    rw [out_sin_next m c ⟨n + 1, hn⟩ (by show ¬ (n + 1) % 4 = 0; omega) y]
    exact out_sin c n (by omega) y

end Cert.KernelIdeal.Blk
-- ==== Proof.RopeBlock.lean ====
/- The cosines and sines of one block of 256 tokens. -/
module

public import proofs.«01_k».proof.Proof.RopeTable

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

variable (m : (ℓ : Loc nD τ sig) → Buf (Elt Ideal) ℓ)

theorem off1_inb (t : Fin cfg0.N) : ∀ a, k0_off1 (grid0.coords t) a + S256x128.size a ≤ S1024x128.size a :=
  (by decide +kernel : ∀ t : Fin grid0.N, ∀ a, k0_off1 (grid0.coords t) a + S256x128.size a ≤ S1024x128.size a) t

theorem off1_eq : ∀ t : Fin cfg0.N, k0_off1 (grid0.coords t) = ![256 * t.val, 0] := (by decide +kernel : ∀ t : Fin grid0.N, _)

/-- The block's rows of the table. -/
def cosB (c : Dev nD) (t : Fin cfg0.N) : Vec Ideal S256x128 .f32 :=
  View.ld (cosT (iblk m c 2 t) (iblk m c 3 t)) (Rect.unit (s := S1024x128) (k0_off1 (grid0.coords t)) ![256, 128] (off1_inb t))
def sinB (c : Dev nD) (t : Fin cfg0.N) : Vec Ideal S256x128 .f32 :=
  View.ld (sinT (iblk m c 2 t) (iblk m c 3 t)) (Rect.unit (s := S1024x128) (k0_off1 (grid0.coords t)) ![256, 128] (off1_inb t))

theorem cosB_apply (c : Dev nD) (t : Fin cfg0.N) (i : Fin 256) (l : Fin 128) : cosB m c t (ix2 i l)
    = cosT (V m c main_arg2) (V m c main_v12) (ix2 ⟨256 * t.val + i.val, by have := points t; omega⟩ l) := by
  unfold cosB
  rw [iblk2_eq, iblk3_eq]
  refine View.ld_unit_apply_of _ _ _ (off1_inb t) _ _ fun a => ?_
  have h := congrFun (off1_eq t) a
  refine Eq.trans ?_ (congrArg (· + (ix2 i l a).val) h.symm)
  match a with
  | ⟨0, _⟩ => rfl
  | ⟨1, _⟩ => show l.val = 0 + l.val; omega

theorem sinB_apply (c : Dev nD) (t : Fin cfg0.N) (i : Fin 256) (l : Fin 128) : sinB m c t (ix2 i l)
    = sinT (V m c main_arg2) (V m c main_v12) (ix2 ⟨256 * t.val + i.val, by have := points t; omega⟩ l) := by
  unfold sinB
  rw [iblk2_eq, iblk3_eq]
  refine View.ld_unit_apply_of _ _ _ (off1_inb t) _ _ fun a => ?_
  have h := congrFun (off1_eq t) a
  refine Eq.trans ?_ (congrArg (· + (ix2 i l a).val) h.symm)
  match a with
  | ⟨0, _⟩ => rfl
  | ⟨1, _⟩ => show l.val = 0 + l.val; omega

/-- What a later point finds. -/
theorem cos_before (c : Dev nD) (t : Fin cfg0.N) (n : ℕ) (hn : n < cfg0.N) :
    (outsAt0 m c n hn).2.2.2.2.2.1 = cosT (iblk m c 2 t) (iblk m c 3 t) :=
  funext fun y => by rw [out_cos m c n hn y, iblk2_eq, iblk3_eq]
theorem sin_before (c : Dev nD) (t : Fin cfg0.N) (n : ℕ) (hn : n < cfg0.N) :
    (outsAt0 m c n hn).2.2.2.2.2.2 = sinT (iblk m c 2 t) (iblk m c 3 t) :=
  funext fun y => by rw [out_sin m c n hn y, iblk2_eq, iblk3_eq]

end Cert.KernelIdeal.Blk
-- ==== Proof.OutQ.lean ====
/- What the kernel stores of the queries at each grid point. -/
module

public import proofs.«01_k».proof.Proof.HeadBlock
public import proofs.«01_k».proof.Proof.Packed
public import proofs.«01_k».proof.Proof.RopeBlock

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

section

variable (x : Vec Ideal S256x4608 .bf16) (g : Vec Ideal S1x4608 .f32) (W : Vec Ideal S4608x4096 .fp8e4m3) (ws : Vec Ideal S1x4096 .f32)
  (cs sn : Vec Ideal S256x128 .f32)

/-- The packed scratch: row `8 i + p` holds heads `0 + 2 p` and `0 + 2 p + 1` of token `i`. -/
def qRow (y : S2048x2x128.Idx) : EReal :=
  rotB x g W ws cs sn ⟨(y 0).val / 8, by have : (y 0).val < 2048 := (y 0).isLt; omega⟩ ⟨0 + 2 * ((y 0).val % 8) + (y 1).val, by have : (y 1).val < 2 := (y 1).isLt; omega⟩ (y 2)

theorem qRow_eq (p : ℕ) (hp : p < 8) (i : Fin 256) (b : Fin 2) (l : Fin 128) :
    qRow x g W ws cs sn (ix3 ⟨8 * i.val + p, by omega⟩ b l) = rotB x g W ws cs sn i ⟨0 + 2 * p + b.val, by omega⟩ l := by
  have e0 : (⟨(8 * i.val + p) / 8, by omega⟩ : Fin 256) = i := Fin.ext (by show (8 * i.val + p) / 8 = i.val; omega)
  have e1 : (⟨0 + 2 * ((8 * i.val + p) % 8) + b.val, by omega⟩ : Fin 32) = ⟨0 + 2 * p + b.val, by omega⟩ :=
    Fin.ext (by show 0 + 2 * ((8 * i.val + p) % 8) + b.val = 0 + 2 * p + b.val; omega)
  show rotB x g W ws cs sn ⟨(8 * i.val + p) / 8, _⟩ ⟨0 + 2 * ((8 * i.val + p) % 8) + b.val, _⟩ l = _
  rw [e0, e1]

/-- Unpacked: row `16 i + h` is head `0 + h` of token `i`. -/
theorem qRow_at (r : Fin 4096) (l : Fin 128) :
    qRow x g W ws cs sn (ix3 ⟨r.val / 2, by omega⟩ ⟨r.val % 2, by omega⟩ l) = rotB x g W ws cs sn ⟨r.val / 16, by omega⟩ ⟨0 + r.val % 16, by omega⟩ l := by
  have e0 : (⟨r.val / 2 / 8, by omega⟩ : Fin 256) = ⟨r.val / 16, by omega⟩ := Fin.ext (by show r.val / 2 / 8 = r.val / 16; omega)
  have e1 : (⟨0 + 2 * (r.val / 2 % 8) + r.val % 2, by omega⟩ : Fin 32) = ⟨0 + r.val % 16, by omega⟩ :=
    Fin.ext (by show 0 + 2 * (r.val / 2 % 8) + r.val % 2 = 0 + r.val % 16; omega)
  show rotB x g W ws cs sn ⟨r.val / 2 / 8, _⟩ ⟨0 + 2 * (r.val / 2 % 8) + r.val % 2, _⟩ l = _
  rw [e0, e1]

theorem q_read {κ : Kind} {sp : Space} (v : View sig κ sp S2048x2x128 .bf16) :
    v.readCov (Val := Elt Ideal)
      [⟨{ off := ![7, 0, 0], size := ![256, 2, 128], stride := ![8, 1, 1], inb := inb_S2048x2x128_S256x2x128_7_0_0_s_8_1_1, stride_pos := spos_8_1_1 },
        pairR 256 384 slices_S256x512_o0_256_S256x128 slices_S256x512_o0_384_S256x128 (codesV x g) (ldW W 1536 inb_S4608x4096_S4608x512_0_1536) (xsV x g) (ldWs ws 1792 inb_S1x4096_S1x128_0_1792) (ldWs ws 1920 inb_S1x4096_S1x128_0_1920) cs sn⟩,
       ⟨{ off := ![6, 0, 0], size := ![256, 2, 128], stride := ![8, 1, 1], inb := inb_S2048x2x128_S256x2x128_6_0_0_s_8_1_1, stride_pos := spos_8_1_1 },
        pairR 0 128 slices_S256x512_o0_0_S256x128 slices_S256x512_o0_128_S256x128 (codesV x g) (ldW W 1536 inb_S4608x4096_S4608x512_0_1536) (xsV x g) (ldWs ws 1536 inb_S1x4096_S1x128_0_1536) (ldWs ws 1664 inb_S1x4096_S1x128_0_1664) cs sn⟩,
       ⟨{ off := ![5, 0, 0], size := ![256, 2, 128], stride := ![8, 1, 1], inb := inb_S2048x2x128_S256x2x128_5_0_0_s_8_1_1, stride_pos := spos_8_1_1 },
        pairR 256 384 slices_S256x512_o0_256_S256x128 slices_S256x512_o0_384_S256x128 (codesV x g) (ldW W 1024 inb_S4608x4096_S4608x512_0_1024) (xsV x g) (ldWs ws 1280 inb_S1x4096_S1x128_0_1280) (ldWs ws 1408 inb_S1x4096_S1x128_0_1408) cs sn⟩,
       ⟨{ off := ![4, 0, 0], size := ![256, 2, 128], stride := ![8, 1, 1], inb := inb_S2048x2x128_S256x2x128_4_0_0_s_8_1_1, stride_pos := spos_8_1_1 },
        pairR 0 128 slices_S256x512_o0_0_S256x128 slices_S256x512_o0_128_S256x128 (codesV x g) (ldW W 1024 inb_S4608x4096_S4608x512_0_1024) (xsV x g) (ldWs ws 1024 inb_S1x4096_S1x128_0_1024) (ldWs ws 1152 inb_S1x4096_S1x128_0_1152) cs sn⟩,
       ⟨{ off := ![3, 0, 0], size := ![256, 2, 128], stride := ![8, 1, 1], inb := inb_S2048x2x128_S256x2x128_3_0_0_s_8_1_1, stride_pos := spos_8_1_1 },
        pairR 256 384 slices_S256x512_o0_256_S256x128 slices_S256x512_o0_384_S256x128 (codesV x g) (ldW W 512 inb_S4608x4096_S4608x512_0_512) (xsV x g) (ldWs ws 768 inb_S1x4096_S1x128_0_768) (ldWs ws 896 inb_S1x4096_S1x128_0_896) cs sn⟩,
       ⟨{ off := ![2, 0, 0], size := ![256, 2, 128], stride := ![8, 1, 1], inb := inb_S2048x2x128_S256x2x128_2_0_0_s_8_1_1, stride_pos := spos_8_1_1 },
        pairR 0 128 slices_S256x512_o0_0_S256x128 slices_S256x512_o0_128_S256x128 (codesV x g) (ldW W 512 inb_S4608x4096_S4608x512_0_512) (xsV x g) (ldWs ws 512 inb_S1x4096_S1x128_0_512) (ldWs ws 640 inb_S1x4096_S1x128_0_640) cs sn⟩,
       ⟨{ off := ![1, 0, 0], size := ![256, 2, 128], stride := ![8, 1, 1], inb := inb_S2048x2x128_S256x2x128_1_0_0_s_8_1_1, stride_pos := spos_8_1_1 },
        pairR 256 384 slices_S256x512_o0_256_S256x128 slices_S256x512_o0_384_S256x128 (codesV x g) (ldW W 0 inb_S4608x4096_S4608x512_0_0) (xsV x g) (ldWs ws 256 inb_S1x4096_S1x128_0_256) (ldWs ws 384 inb_S1x4096_S1x128_0_384) cs sn⟩,
       ⟨{ off := ![0, 0, 0], size := ![256, 2, 128], stride := ![8, 1, 1], inb := inb_S2048x2x128_S256x2x128_0_0_0_s_8_1_1, stride_pos := spos_8_1_1 },
        pairR 0 128 slices_S256x512_o0_0_S256x128 slices_S256x512_o0_128_S256x128 (codesV x g) (ldW W 0 inb_S4608x4096_S4608x512_0_0) (xsV x g) (ldWs ws 0 inb_S1x4096_S1x128_0_0) (ldWs ws 128 inb_S1x4096_S1x128_0_128) cs sn⟩]
      (Rect.unit (s := S2048x2x128) ![0, 0, 0] ![2048, 2, 128] inb_S2048x2x128_S2048x2x128_0_0_0).toLoadRect = qRow x g W ws cs sn :=
  Packed.read8 (Val := Elt Ideal) (e := .bf16)
      (fun i b l => (pairR_block x g W ws cs sn 1536 256 384 1792 1920 (by omega) rfl _ _ _ _ _ i b l ⟨14 + b.val, by omega⟩ rfl rfl (by show 128 * (14 + b.val) = 1536 + 256 + 128 * b.val; omega)).trans (qRow_eq x g W ws cs sn 7 (by omega) i b l).symm)
      (fun i b l => (pairR_block x g W ws cs sn 1536 0 128 1536 1664 (by omega) rfl _ _ _ _ _ i b l ⟨12 + b.val, by omega⟩ rfl rfl (by show 128 * (12 + b.val) = 1536 + 0 + 128 * b.val; omega)).trans (qRow_eq x g W ws cs sn 6 (by omega) i b l).symm)
      (fun i b l => (pairR_block x g W ws cs sn 1024 256 384 1280 1408 (by omega) rfl _ _ _ _ _ i b l ⟨10 + b.val, by omega⟩ rfl rfl (by show 128 * (10 + b.val) = 1024 + 256 + 128 * b.val; omega)).trans (qRow_eq x g W ws cs sn 5 (by omega) i b l).symm)
      (fun i b l => (pairR_block x g W ws cs sn 1024 0 128 1024 1152 (by omega) rfl _ _ _ _ _ i b l ⟨8 + b.val, by omega⟩ rfl rfl (by show 128 * (8 + b.val) = 1024 + 0 + 128 * b.val; omega)).trans (qRow_eq x g W ws cs sn 4 (by omega) i b l).symm)
      (fun i b l => (pairR_block x g W ws cs sn 512 256 384 768 896 (by omega) rfl _ _ _ _ _ i b l ⟨6 + b.val, by omega⟩ rfl rfl (by show 128 * (6 + b.val) = 512 + 256 + 128 * b.val; omega)).trans (qRow_eq x g W ws cs sn 3 (by omega) i b l).symm)
      (fun i b l => (pairR_block x g W ws cs sn 512 0 128 512 640 (by omega) rfl _ _ _ _ _ i b l ⟨4 + b.val, by omega⟩ rfl rfl (by show 128 * (4 + b.val) = 512 + 0 + 128 * b.val; omega)).trans (qRow_eq x g W ws cs sn 2 (by omega) i b l).symm)
      (fun i b l => (pairR_block x g W ws cs sn 0 256 384 256 384 (by omega) rfl _ _ _ _ _ i b l ⟨2 + b.val, by omega⟩ rfl rfl (by show 128 * (2 + b.val) = 0 + 256 + 128 * b.val; omega)).trans (qRow_eq x g W ws cs sn 1 (by omega) i b l).symm)
      (fun i b l => (pairR_block x g W ws cs sn 0 0 128 0 128 (by omega) rfl _ _ _ _ _ i b l ⟨0 + b.val, by omega⟩ rfl rfl (by show 128 * (0 + b.val) = 0 + 0 + 128 * b.val; omega)).trans (qRow_eq x g W ws cs sn 0 (by omega) i b l).symm)

end

variable (m : (ℓ : Loc nD τ sig) → Buf (Elt Ideal) ℓ)

theorem out_q_first (c : Dev nD) (t : Fin cfg0.N) (h0 : t.val % 4 = 0) (r : Fin 4096) (l : Fin 128) :
    (outsAt0 m c t.val t.isLt).1 (ix2 r l) = rotB (iblk m c 0 t) (iblk m c 1 t) (iblk m c 4 t) (iblk m c 5 t) (cosB m c t) (sinB m c t) ⟨r.val / 16, by omega⟩ ⟨0 + r.val % 16, by omega⟩ l := by
  rw [outsAt0_A m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7]
  simp only [codes_read, xs_read]
  simp only [qPair_0, qPair_1, qPair_2, qPair_3, qPair_4, qPair_5, qPair_6, qPair_7]
  rw [pay179_apply]
  simp only [pay11_eq, pay12_eq]
  rw [cos_canon, sin_canon]
  exact (congrFun (q_read (iblk m c 0 t) (iblk m c 1 t) (iblk m c 4 t) (iblk m c 5 t) (cosB m c t) (sinB m c t) _) _).trans (qRow_at _ _ _ _ _ _ r l)

theorem out_q_next (c : Dev nD) (t : Fin cfg0.N) (h0 : ¬ t.val % 4 = 0) (r : Fin 4096) (l : Fin 128) :
    (outsAt0 m c t.val t.isLt).1 (ix2 r l) = rotB (iblk m c 0 t) (iblk m c 1 t) (iblk m c 4 t) (iblk m c 5 t) (cosB m c t) (sinB m c t) ⟨r.val / 16, by omega⟩ ⟨0 + r.val % 16, by omega⟩ l := by
  rw [outsAt0_B m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7, read_unread_whole]
  simp only [codes_read, xs_read]
  simp only [qPair_0, qPair_1, qPair_2, qPair_3, qPair_4, qPair_5, qPair_6, qPair_7]
  rw [pay179_apply]
  rw [cos_before m c t (t.val - 1), sin_before m c t (t.val - 1)]
  exact (congrFun (q_read (iblk m c 0 t) (iblk m c 1 t) (iblk m c 4 t) (iblk m c 5 t) (cosB m c t) (sinB m c t) _) _).trans (qRow_at _ _ _ _ _ _ r l)

/-- The block of queries. -/
theorem out_q (c : Dev nD) (t : Fin cfg0.N) (r : Fin 4096) (l : Fin 128) :
    (outsAt0 m c t.val t.isLt).1 (ix2 r l) = rotB (iblk m c 0 t) (iblk m c 1 t) (iblk m c 4 t) (iblk m c 5 t) (cosB m c t) (sinB m c t) ⟨r.val / 16, by omega⟩ ⟨0 + r.val % 16, by omega⟩ l := by
  rcases Classical.em (t.val % 4 = 0) with h0 | h0
  · exact out_q_first m c t h0 r l
  · exact out_q_next m c t h0 r l

end Cert.KernelIdeal.Blk
-- ==== Proof.OutK.lean ====
/- What the kernel stores of the keys at each grid point. -/
module

public import proofs.«01_k».proof.Proof.HeadBlock
public import proofs.«01_k».proof.Proof.Packed
public import proofs.«01_k».proof.Proof.RopeBlock

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

section

variable (x : Vec Ideal S256x4608 .bf16) (g : Vec Ideal S1x4608 .f32) (W : Vec Ideal S4608x4096 .fp8e4m3) (ws : Vec Ideal S1x4096 .f32)
  (cs sn : Vec Ideal S256x128 .f32)

/-- The packed scratch: row `4 i + p` holds heads `16 + 2 p` and `16 + 2 p + 1` of token `i`. -/
def kRow (y : S1024x2x128.Idx) : EReal :=
  rotB x g W ws cs sn ⟨(y 0).val / 4, by have : (y 0).val < 1024 := (y 0).isLt; omega⟩ ⟨16 + 2 * ((y 0).val % 4) + (y 1).val, by have : (y 1).val < 2 := (y 1).isLt; omega⟩ (y 2)

theorem kRow_eq (p : ℕ) (hp : p < 4) (i : Fin 256) (b : Fin 2) (l : Fin 128) :
    kRow x g W ws cs sn (ix3 ⟨4 * i.val + p, by omega⟩ b l) = rotB x g W ws cs sn i ⟨16 + 2 * p + b.val, by omega⟩ l := by
  have e0 : (⟨(4 * i.val + p) / 4, by omega⟩ : Fin 256) = i := Fin.ext (by show (4 * i.val + p) / 4 = i.val; omega)
  have e1 : (⟨16 + 2 * ((4 * i.val + p) % 4) + b.val, by omega⟩ : Fin 32) = ⟨16 + 2 * p + b.val, by omega⟩ :=
    Fin.ext (by show 16 + 2 * ((4 * i.val + p) % 4) + b.val = 16 + 2 * p + b.val; omega)
  show rotB x g W ws cs sn ⟨(4 * i.val + p) / 4, _⟩ ⟨16 + 2 * ((4 * i.val + p) % 4) + b.val, _⟩ l = _
  rw [e0, e1]

/-- Unpacked: row `8 i + h` is head `16 + h` of token `i`. -/
theorem kRow_at (r : Fin 2048) (l : Fin 128) :
    kRow x g W ws cs sn (ix3 ⟨r.val / 2, by omega⟩ ⟨r.val % 2, by omega⟩ l) = rotB x g W ws cs sn ⟨r.val / 8, by omega⟩ ⟨16 + r.val % 8, by omega⟩ l := by
  have e0 : (⟨r.val / 2 / 4, by omega⟩ : Fin 256) = ⟨r.val / 8, by omega⟩ := Fin.ext (by show r.val / 2 / 4 = r.val / 8; omega)
  have e1 : (⟨16 + 2 * (r.val / 2 % 4) + r.val % 2, by omega⟩ : Fin 32) = ⟨16 + r.val % 8, by omega⟩ :=
    Fin.ext (by show 16 + 2 * (r.val / 2 % 4) + r.val % 2 = 16 + r.val % 8; omega)
  show rotB x g W ws cs sn ⟨r.val / 2 / 4, _⟩ ⟨16 + 2 * (r.val / 2 % 4) + r.val % 2, _⟩ l = _
  rw [e0, e1]

theorem k_read {κ : Kind} {sp : Space} (v : View sig κ sp S1024x2x128 .bf16) :
    v.readCov (Val := Elt Ideal)
      [⟨{ off := ![3, 0, 0], size := ![256, 2, 128], stride := ![4, 1, 1], inb := inb_S1024x2x128_S256x2x128_3_0_0_s_4_1_1, stride_pos := spos_4_1_1 },
        pairR 256 384 slices_S256x512_o0_256_S256x128 slices_S256x512_o0_384_S256x128 (codesV x g) (ldW W 2560 inb_S4608x4096_S4608x512_0_2560) (xsV x g) (ldWs ws 2816 inb_S1x4096_S1x128_0_2816) (ldWs ws 2944 inb_S1x4096_S1x128_0_2944) cs sn⟩,
       ⟨{ off := ![2, 0, 0], size := ![256, 2, 128], stride := ![4, 1, 1], inb := inb_S1024x2x128_S256x2x128_2_0_0_s_4_1_1, stride_pos := spos_4_1_1 },
        pairR 0 128 slices_S256x512_o0_0_S256x128 slices_S256x512_o0_128_S256x128 (codesV x g) (ldW W 2560 inb_S4608x4096_S4608x512_0_2560) (xsV x g) (ldWs ws 2560 inb_S1x4096_S1x128_0_2560) (ldWs ws 2688 inb_S1x4096_S1x128_0_2688) cs sn⟩,
       ⟨{ off := ![1, 0, 0], size := ![256, 2, 128], stride := ![4, 1, 1], inb := inb_S1024x2x128_S256x2x128_1_0_0_s_4_1_1, stride_pos := spos_4_1_1 },
        pairR 256 384 slices_S256x512_o0_256_S256x128 slices_S256x512_o0_384_S256x128 (codesV x g) (ldW W 2048 inb_S4608x4096_S4608x512_0_2048) (xsV x g) (ldWs ws 2304 inb_S1x4096_S1x128_0_2304) (ldWs ws 2432 inb_S1x4096_S1x128_0_2432) cs sn⟩,
       ⟨{ off := ![0, 0, 0], size := ![256, 2, 128], stride := ![4, 1, 1], inb := inb_S1024x2x128_S256x2x128_0_0_0_s_4_1_1, stride_pos := spos_4_1_1 },
        pairR 0 128 slices_S256x512_o0_0_S256x128 slices_S256x512_o0_128_S256x128 (codesV x g) (ldW W 2048 inb_S4608x4096_S4608x512_0_2048) (xsV x g) (ldWs ws 2048 inb_S1x4096_S1x128_0_2048) (ldWs ws 2176 inb_S1x4096_S1x128_0_2176) cs sn⟩]
      (Rect.unit (s := S1024x2x128) ![0, 0, 0] ![1024, 2, 128] inb_S1024x2x128_S1024x2x128_0_0_0).toLoadRect = kRow x g W ws cs sn :=
  Packed.read4 (Val := Elt Ideal) (e := .bf16)
      (fun i b l => (pairR_block x g W ws cs sn 2560 256 384 2816 2944 (by omega) rfl _ _ _ _ _ i b l ⟨22 + b.val, by omega⟩ rfl rfl (by show 128 * (22 + b.val) = 2560 + 256 + 128 * b.val; omega)).trans (kRow_eq x g W ws cs sn 3 (by omega) i b l).symm)
      (fun i b l => (pairR_block x g W ws cs sn 2560 0 128 2560 2688 (by omega) rfl _ _ _ _ _ i b l ⟨20 + b.val, by omega⟩ rfl rfl (by show 128 * (20 + b.val) = 2560 + 0 + 128 * b.val; omega)).trans (kRow_eq x g W ws cs sn 2 (by omega) i b l).symm)
      (fun i b l => (pairR_block x g W ws cs sn 2048 256 384 2304 2432 (by omega) rfl _ _ _ _ _ i b l ⟨18 + b.val, by omega⟩ rfl rfl (by show 128 * (18 + b.val) = 2048 + 256 + 128 * b.val; omega)).trans (kRow_eq x g W ws cs sn 1 (by omega) i b l).symm)
      (fun i b l => (pairR_block x g W ws cs sn 2048 0 128 2048 2176 (by omega) rfl _ _ _ _ _ i b l ⟨16 + b.val, by omega⟩ rfl rfl (by show 128 * (16 + b.val) = 2048 + 0 + 128 * b.val; omega)).trans (kRow_eq x g W ws cs sn 0 (by omega) i b l).symm)

end

variable (m : (ℓ : Loc nD τ sig) → Buf (Elt Ideal) ℓ)

theorem out_k_first (c : Dev nD) (t : Fin cfg0.N) (h0 : t.val % 4 = 0) (r : Fin 2048) (l : Fin 128) :
    (outsAt0 m c t.val t.isLt).2.1 (ix2 r l) = rotB (iblk m c 0 t) (iblk m c 1 t) (iblk m c 4 t) (iblk m c 5 t) (cosB m c t) (sinB m c t) ⟨r.val / 8, by omega⟩ ⟨16 + r.val % 8, by omega⟩ l := by
  rw [outsAt0_A m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7]
  simp only [codes_read, xs_read]
  simp only [kPair_0, kPair_1, kPair_2, kPair_3]
  rw [pay180_apply]
  simp only [pay11_eq, pay12_eq]
  rw [cos_canon, sin_canon]
  exact (congrFun (k_read (iblk m c 0 t) (iblk m c 1 t) (iblk m c 4 t) (iblk m c 5 t) (cosB m c t) (sinB m c t) _) _).trans (kRow_at _ _ _ _ _ _ r l)

theorem out_k_next (c : Dev nD) (t : Fin cfg0.N) (h0 : ¬ t.val % 4 = 0) (r : Fin 2048) (l : Fin 128) :
    (outsAt0 m c t.val t.isLt).2.1 (ix2 r l) = rotB (iblk m c 0 t) (iblk m c 1 t) (iblk m c 4 t) (iblk m c 5 t) (cosB m c t) (sinB m c t) ⟨r.val / 8, by omega⟩ ⟨16 + r.val % 8, by omega⟩ l := by
  rw [outsAt0_B m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7, read_unread_whole]
  simp only [codes_read, xs_read]
  simp only [kPair_0, kPair_1, kPair_2, kPair_3]
  rw [pay180_apply]
  rw [cos_before m c t (t.val - 1), sin_before m c t (t.val - 1)]
  exact (congrFun (k_read (iblk m c 0 t) (iblk m c 1 t) (iblk m c 4 t) (iblk m c 5 t) (cosB m c t) (sinB m c t) _) _).trans (kRow_at _ _ _ _ _ _ r l)

/-- The block of keys. -/
theorem out_k (c : Dev nD) (t : Fin cfg0.N) (r : Fin 2048) (l : Fin 128) :
    (outsAt0 m c t.val t.isLt).2.1 (ix2 r l) = rotB (iblk m c 0 t) (iblk m c 1 t) (iblk m c 4 t) (iblk m c 5 t) (cosB m c t) (sinB m c t) ⟨r.val / 8, by omega⟩ ⟨16 + r.val % 8, by omega⟩ l := by
  rcases Classical.em (t.val % 4 = 0) with h0 | h0
  · exact out_k_first m c t h0 r l
  · exact out_k_next m c t h0 r l

end Cert.KernelIdeal.Blk
-- ==== Proof.OutV.lean ====
/- What the kernel stores of the values at each grid point. -/
module

public import proofs.«01_k».proof.Proof.HeadBlock
public import proofs.«01_k».proof.Proof.Packed
public import proofs.«01_k».proof.Proof.RopeBlock

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

section

variable (x : Vec Ideal S256x4608 .bf16) (g : Vec Ideal S1x4608 .f32) (W : Vec Ideal S4608x4096 .fp8e4m3) (ws : Vec Ideal S1x4096 .f32)

/-- The packed scratch: row `4 i + p` holds heads `24 + 2 p` and `24 + 2 p + 1` of token `i`. -/
def vRow (y : S1024x2x128.Idx) : EReal :=
  projB x g W ws ⟨(y 0).val / 4, by have : (y 0).val < 1024 := (y 0).isLt; omega⟩ (colOf ⟨24 + 2 * ((y 0).val % 4) + (y 1).val, by have : (y 1).val < 2 := (y 1).isLt; omega⟩ (y 2))

theorem vRow_eq (p : ℕ) (hp : p < 4) (i : Fin 256) (b : Fin 2) (l : Fin 128) :
    vRow x g W ws (ix3 ⟨4 * i.val + p, by omega⟩ b l) = projB x g W ws i (colOf ⟨24 + 2 * p + b.val, by omega⟩ l) := by
  have e0 : (⟨(4 * i.val + p) / 4, by omega⟩ : Fin 256) = i := Fin.ext (by show (4 * i.val + p) / 4 = i.val; omega)
  have e1 : (⟨24 + 2 * ((4 * i.val + p) % 4) + b.val, by omega⟩ : Fin 32) = ⟨24 + 2 * p + b.val, by omega⟩ :=
    Fin.ext (by show 24 + 2 * ((4 * i.val + p) % 4) + b.val = 24 + 2 * p + b.val; omega)
  show projB x g W ws ⟨(4 * i.val + p) / 4, _⟩ (colOf ⟨24 + 2 * ((4 * i.val + p) % 4) + b.val, _⟩ l) = _
  rw [e0, e1]

/-- Unpacked: row `8 i + h` is head `24 + h` of token `i`. -/
theorem vRow_at (r : Fin 2048) (l : Fin 128) :
    vRow x g W ws (ix3 ⟨r.val / 2, by omega⟩ ⟨r.val % 2, by omega⟩ l) = projB x g W ws ⟨r.val / 8, by omega⟩ (colOf ⟨24 + r.val % 8, by omega⟩ l) := by
  have e0 : (⟨r.val / 2 / 4, by omega⟩ : Fin 256) = ⟨r.val / 8, by omega⟩ := Fin.ext (by show r.val / 2 / 4 = r.val / 8; omega)
  have e1 : (⟨24 + 2 * (r.val / 2 % 4) + r.val % 2, by omega⟩ : Fin 32) = ⟨24 + r.val % 8, by omega⟩ :=
    Fin.ext (by show 24 + 2 * (r.val / 2 % 4) + r.val % 2 = 24 + r.val % 8; omega)
  show projB x g W ws ⟨r.val / 2 / 4, _⟩ (colOf ⟨24 + 2 * (r.val / 2 % 4) + r.val % 2, _⟩ l) = _
  rw [e0, e1]

theorem v_read {κ : Kind} {sp : Space} (v : View sig κ sp S1024x2x128 .bf16) :
    v.readCov (Val := Elt Ideal)
      [⟨{ off := ![3, 0, 0], size := ![256, 2, 128], stride := ![4, 1, 1], inb := inb_S1024x2x128_S256x2x128_3_0_0_s_4_1_1, stride_pos := spos_4_1_1 },
        pairP 256 384 slices_S256x512_o0_256_S256x128 slices_S256x512_o0_384_S256x128 (codesV x g) (ldW W 3584 inb_S4608x4096_S4608x512_0_3584) (xsV x g) (ldWs ws 3840 inb_S1x4096_S1x128_0_3840) (ldWs ws 3968 inb_S1x4096_S1x128_0_3968)⟩,
       ⟨{ off := ![2, 0, 0], size := ![256, 2, 128], stride := ![4, 1, 1], inb := inb_S1024x2x128_S256x2x128_2_0_0_s_4_1_1, stride_pos := spos_4_1_1 },
        pairP 0 128 slices_S256x512_o0_0_S256x128 slices_S256x512_o0_128_S256x128 (codesV x g) (ldW W 3584 inb_S4608x4096_S4608x512_0_3584) (xsV x g) (ldWs ws 3584 inb_S1x4096_S1x128_0_3584) (ldWs ws 3712 inb_S1x4096_S1x128_0_3712)⟩,
       ⟨{ off := ![1, 0, 0], size := ![256, 2, 128], stride := ![4, 1, 1], inb := inb_S1024x2x128_S256x2x128_1_0_0_s_4_1_1, stride_pos := spos_4_1_1 },
        pairP 256 384 slices_S256x512_o0_256_S256x128 slices_S256x512_o0_384_S256x128 (codesV x g) (ldW W 3072 inb_S4608x4096_S4608x512_0_3072) (xsV x g) (ldWs ws 3328 inb_S1x4096_S1x128_0_3328) (ldWs ws 3456 inb_S1x4096_S1x128_0_3456)⟩,
       ⟨{ off := ![0, 0, 0], size := ![256, 2, 128], stride := ![4, 1, 1], inb := inb_S1024x2x128_S256x2x128_0_0_0_s_4_1_1, stride_pos := spos_4_1_1 },
        pairP 0 128 slices_S256x512_o0_0_S256x128 slices_S256x512_o0_128_S256x128 (codesV x g) (ldW W 3072 inb_S4608x4096_S4608x512_0_3072) (xsV x g) (ldWs ws 3072 inb_S1x4096_S1x128_0_3072) (ldWs ws 3200 inb_S1x4096_S1x128_0_3200)⟩]
      (Rect.unit (s := S1024x2x128) ![0, 0, 0] ![1024, 2, 128] inb_S1024x2x128_S1024x2x128_0_0_0).toLoadRect = vRow x g W ws :=
  Packed.read4 (Val := Elt Ideal) (e := .bf16)
      (fun i b l => (pairP_block x g W ws 3584 256 384 3840 3968 (by omega) rfl _ _ _ _ _ i b l ⟨30 + b.val, by omega⟩ rfl rfl (by show 128 * (30 + b.val) = 3584 + 256 + 128 * b.val; omega)).trans (vRow_eq x g W ws 3 (by omega) i b l).symm)
      (fun i b l => (pairP_block x g W ws 3584 0 128 3584 3712 (by omega) rfl _ _ _ _ _ i b l ⟨28 + b.val, by omega⟩ rfl rfl (by show 128 * (28 + b.val) = 3584 + 0 + 128 * b.val; omega)).trans (vRow_eq x g W ws 2 (by omega) i b l).symm)
      (fun i b l => (pairP_block x g W ws 3072 256 384 3328 3456 (by omega) rfl _ _ _ _ _ i b l ⟨26 + b.val, by omega⟩ rfl rfl (by show 128 * (26 + b.val) = 3072 + 256 + 128 * b.val; omega)).trans (vRow_eq x g W ws 1 (by omega) i b l).symm)
      (fun i b l => (pairP_block x g W ws 3072 0 128 3072 3200 (by omega) rfl _ _ _ _ _ i b l ⟨24 + b.val, by omega⟩ rfl rfl (by show 128 * (24 + b.val) = 3072 + 0 + 128 * b.val; omega)).trans (vRow_eq x g W ws 0 (by omega) i b l).symm)

end

variable (m : (ℓ : Loc nD τ sig) → Buf (Elt Ideal) ℓ)

theorem out_v_first (c : Dev nD) (t : Fin cfg0.N) (h0 : t.val % 4 = 0) (r : Fin 2048) (l : Fin 128) :
    (outsAt0 m c t.val t.isLt).2.2.1 (ix2 r l) = projB (iblk m c 0 t) (iblk m c 1 t) (iblk m c 4 t) (iblk m c 5 t) ⟨r.val / 8, by omega⟩ (colOf ⟨24 + r.val % 8, by omega⟩ l) := by
  rw [outsAt0_A m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7]
  simp only [codes_read, xs_read]
  simp only [vPair_0, vPair_1, vPair_2, vPair_3]
  rw [pay1_apply]
  exact (congrFun (v_read (iblk m c 0 t) (iblk m c 1 t) (iblk m c 4 t) (iblk m c 5 t) _) _).trans (vRow_at _ _ _ _ r l)

theorem out_v_next (c : Dev nD) (t : Fin cfg0.N) (h0 : ¬ t.val % 4 = 0) (r : Fin 2048) (l : Fin 128) :
    (outsAt0 m c t.val t.isLt).2.2.1 (ix2 r l) = projB (iblk m c 0 t) (iblk m c 1 t) (iblk m c 4 t) (iblk m c 5 t) ⟨r.val / 8, by omega⟩ (colOf ⟨24 + r.val % 8, by omega⟩ l) := by
  rw [outsAt0_B m c t h0]
  dsimp only
  frame_open
  simp (disch := decide) only [↓ View.readCov_skip, ↓ View.readCov_cons_toLoadRect, ↓ View.readCov_fill]
  frame_out
  simp only [grpCodes_0, grpCodes_1, grpCodes_2, grpCodes_3, grpCodes_4, grpCodes_5, grpCodes_6, grpCodes_7,
    grpXs_0, grpXs_1, grpXs_2, grpXs_3, grpXs_4, grpXs_5, grpXs_6, grpXs_7]
  simp only [codes_read, xs_read]
  simp only [vPair_0, vPair_1, vPair_2, vPair_3]
  rw [pay1_apply]
  exact (congrFun (v_read (iblk m c 0 t) (iblk m c 1 t) (iblk m c 4 t) (iblk m c 5 t) _) _).trans (vRow_at _ _ _ _ r l)

/-- The block of values. -/
theorem out_v (c : Dev nD) (t : Fin cfg0.N) (r : Fin 2048) (l : Fin 128) :
    (outsAt0 m c t.val t.isLt).2.2.1 (ix2 r l) = projB (iblk m c 0 t) (iblk m c 1 t) (iblk m c 4 t) (iblk m c 5 t) ⟨r.val / 8, by omega⟩ (colOf ⟨24 + r.val % 8, by omega⟩ l) := by
  rcases Classical.em (t.val % 4 = 0) with h0 | h0
  · exact out_v_first m c t h0 r l
  · exact out_v_next m c t h0 r l

end Cert.KernelIdeal.Blk
-- ==== Proof.Arrays.lean ====
/- The kernel's five arrays after the run, as functions of the arguments. -/
module

public import proofs.«01_k».proof.Proof.Target
public import proofs.«01_k».proof.Proof.OutCodes
public import proofs.«01_k».proof.Proof.OutQ
public import proofs.«01_k».proof.Proof.OutK
public import proofs.«01_k».proof.Proof.OutV

@[expose] public section

set_option maxRecDepth 16384

noncomputable section

namespace Cert.KernelIdeal.Blk

open Cert.KernelIdeal Cert.KernelIdeal.Gen Cert.Spec Idealize.ShloMosaic Idealize.ShloMosaic.TcCoe Idealize.SL.Sem

variable (m : (ℓ : Loc nD τ sig) → Buf (Elt Ideal) ℓ)

/-- The arguments. -/
abbrev aX (c : Dev nD) : Vec Ideal S2x512x4608 .bf16 := m ((c : Thread nD τ).loc main_arg0)
abbrev aG (c : Dev nD) : Vec Ideal S4608 .f32 := m ((c : Thread nD τ).loc main_arg1)
abbrev aP (c : Dev nD) : Vec Ideal S2x512 .i32 := m ((c : Thread nD τ).loc main_arg2)
abbrev aW (c : Dev nD) : Vec Ideal S4608x4096 .fp8e4m3 := m ((c : Thread nD τ).loc main_arg3)
abbrev aS (c : Dev nD) : Vec Ideal S4096 .f32 := m ((c : Thread nD τ).loc main_arg4)

theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

/-- A token of the block is a token of the batch. -/
abbrev tokOf (t : Fin cfg0.N) (i : Fin 256) : Fin 1024 := ⟨256 * t.val + i.val, by have := points t; omega⟩

theorem row_tok (c : Dev nD) (t : Fin cfg0.N) (i : Fin 256) : rowB (iblk m c 0 t) i = Target.tokRow (aX m c) (tokOf t i) :=
  funext fun k => (iblk0_apply m c t i k).trans (V_x m c _ k)

theorem row_gain (c : Dev nD) (t : Fin cfg0.N) : rowG (iblk m c 1 t) = Target.gainRow (aG m c) := by
  rw [iblk1_eq]
  exact funext fun k => V_gain m c k

theorem proj_head (c : Dev nD) (t : Fin cfg0.N) (i : Fin 256) (h : Fin 32) (l : Fin 128) :
    projB (iblk m c 0 t) (iblk m c 1 t) (iblk m c 4 t) (iblk m c 5 t) i (colOf h l) = Target.head (aX m c) (aG m c) (aW m c) (aS m c) (tokOf t i) h l := by
  rw [projB, row_tok, row_gain, iblk4_eq, iblk5_eq, V_main_arg3, V_ws]
  rfl

theorem ang_eq (c : Dev nD) (n : Fin 1024) (l : Fin 128) : tokAngle (V m c main_arg2) (V m c main_v12) n l = Target.ang (aP m c) n l := by
  rw [tokAngle, V_main_arg2]
  exact congrArg _ (V_freq m c (freq l))

theorem rot_turned (c : Dev nD) (t : Fin cfg0.N) (i : Fin 256) (h : Fin 32) (l : Fin 128) :
    rotB (iblk m c 0 t) (iblk m c 1 t) (iblk m c 4 t) (iblk m c 5 t) (cosB m c t) (sinB m c t) i h l
      = Target.turned (aX m c) (aG m c) (aP m c) (aW m c) (aS m c) (tokOf t i) h l := by
  rw [rotB, proj_head, proj_head, cosB_apply, sinB_apply]
  show _ * Ideal.cos (tokAngle _ _ (tokOf t i) l) + _ * (if l.val < 64 then 0 - Ideal.sin (tokAngle _ _ (tokOf t i) l) else Ideal.sin (tokAngle _ _ (tokOf t i) l)) = _
  rw [ang_eq, Target.turned, rot]
  split
  · rw [sub_eq_add_neg (Target.head _ _ _ _ _ _ _ * _), ← mul_neg, zero_sub]
  · rfl

theorem arr_codes (c : Dev nD) : (dats m 0 c).arrAt 9 cfg0.N = Target.codes (aX m c) (aG m c) := by
  refine (dats m 0 c).arrAt_eq_of_covers 9 _ (by decide +kernel) fun t hf y => ?_
  blk_simp
  rw [after0_9]
  revert y
  intro (y : S256x4608.Idx)
  obtain ⟨r, l, rfl⟩ : ∃ (r : Fin 256) (l : Fin 4608), y = ix2 r l := ⟨y 0, y 1, eq_ix2 y⟩
  have ht := points t
  have h0 : ((win0_9.blk t).view.emb (ix2 r l) (0 : Fin 2) : ℕ) = 256 * t.val + r.val := by
    blk_simp [index9 t]; show t.val * 256 + r.val = _; omega
  have h1 : ((win0_9.blk t).view.emb (ix2 r l) (1 : Fin 2) : ℕ) = l.val := by
    blk_simp [index9 t]
  refine (out_codes m c t (ix2 r l)).trans (Eq.trans ?_ (Target.codes_at (aX m c) (aG m c) _ (tokOf t r) l h0 h1).symm)
  show code (rowB (iblk m c 0 t) r) (rowG (iblk m c 1 t)) l = _
  rw [row_tok, row_gain]

theorem arr_scales (c : Dev nD) : (dats m 0 c).arrAt 10 cfg0.N = Target.scales (aX m c) (aG m c) := by
  refine (dats m 0 c).arrAt_eq_of_covers 10 _ (by decide +kernel) fun t hf y => ?_
  blk_simp
  rw [after0_10]
  revert y
  intro (y : S256x1.Idx)
  obtain ⟨r, l, rfl⟩ : ∃ (r : Fin 256) (l : Fin 1), y = ix2 r l := ⟨y 0, y 1, eq_ix2 y⟩
  have ht := points t
  have h0 : ((win0_10.blk t).view.emb (ix2 r l) (0 : Fin 2) : ℕ) = 256 * t.val + r.val := by
    blk_simp [index10 t]; show t.val * 256 + r.val = _; omega
  have h1 : ((win0_10.blk t).view.emb (ix2 r l) (1 : Fin 2) : ℕ) = l.val := by
    blk_simp [index10 t]
  refine (out_scales m c t (ix2 r l)).trans (Eq.trans ?_ (Target.scales_at (aX m c) (aG m c) _ (tokOf t r) h0).symm)
  show scale (rowB (iblk m c 0 t) r) (rowG (iblk m c 1 t)) = _
  rw [row_tok, row_gain]

theorem arr_q (c : Dev nD) : (dats m 0 c).arrAt 6 cfg0.N = Target.q (aX m c) (aG m c) (aP m c) (aW m c) (aS m c) := by
  refine (dats m 0 c).arrAt_eq_of_covers 6 _ (by decide +kernel) fun t hf y => ?_
  blk_simp
  rw [after0_6]
  revert y
  intro (y : S4096x128.Idx)
  obtain ⟨r, l, rfl⟩ : ∃ (r : Fin 4096) (l : Fin 128), y = ix2 r l := ⟨y 0, y 1, eq_ix2 y⟩
  have ht := points t
  have h0 : ((win0_6.blk t).view.emb (ix2 r l) (0 : Fin 2) : ℕ) = 4096 * t.val + r.val := by
    blk_simp [index6 t]; show t.val * 4096 + r.val = _; omega
  have h1 : ((win0_6.blk t).view.emb (ix2 r l) (1 : Fin 2) : ℕ) = l.val := by
    blk_simp [index6 t]
  refine (out_q m c t r l).trans (Eq.trans (rot_turned m c t _ _ l)
    (Target.q_at (aX m c) (aG m c) (aP m c) (aW m c) (aS m c) _ (tokOf t ⟨r.val / 16, by omega⟩) ⟨0 + r.val % 16, by omega⟩ l (by show 0 + r.val % 16 < 16; omega)
      (by rw [h0]; show 4096 * t.val + r.val = 16 * (256 * t.val + r.val / 16) + (0 + r.val % 16); omega) h1).symm)

theorem arr_k (c : Dev nD) : (dats m 0 c).arrAt 7 cfg0.N = Target.k (aX m c) (aG m c) (aP m c) (aW m c) (aS m c) := by
  refine (dats m 0 c).arrAt_eq_of_covers 7 _ (by decide +kernel) fun t hf y => ?_
  blk_simp
  rw [after0_7]
  revert y
  intro (y : S2048x128.Idx)
  obtain ⟨r, l, rfl⟩ : ∃ (r : Fin 2048) (l : Fin 128), y = ix2 r l := ⟨y 0, y 1, eq_ix2 y⟩
  have ht := points t
  have h0 : ((win0_7.blk t).view.emb (ix2 r l) (0 : Fin 2) : ℕ) = 2048 * t.val + r.val := by
    blk_simp [index7 t]; show t.val * 2048 + r.val = _; omega
  have h1 : ((win0_7.blk t).view.emb (ix2 r l) (1 : Fin 2) : ℕ) = l.val := by
    blk_simp [index7 t]
  refine (out_k m c t r l).trans (Eq.trans (rot_turned m c t _ _ l)
    (Target.k_at (aX m c) (aG m c) (aP m c) (aW m c) (aS m c) _ (tokOf t ⟨r.val / 8, by omega⟩) ⟨16 + r.val % 8, by omega⟩ l (by show 16 ≤ 16 + r.val % 8 ∧ 16 + r.val % 8 < 24; omega)
      (by rw [h0]; show 2048 * t.val + r.val + 16 = 8 * (256 * t.val + r.val / 8) + (16 + r.val % 8); omega) h1).symm)

theorem arr_v (c : Dev nD) : (dats m 0 c).arrAt 8 cfg0.N = Target.v (aX m c) (aG m c) (aW m c) (aS m c) := by
  refine (dats m 0 c).arrAt_eq_of_covers 8 _ (by decide +kernel) fun t hf y => ?_
  blk_simp
  rw [after0_8]
  revert y
  intro (y : S2048x128.Idx)
  obtain ⟨r, l, rfl⟩ : ∃ (r : Fin 2048) (l : Fin 128), y = ix2 r l := ⟨y 0, y 1, eq_ix2 y⟩
  have ht := points t
  have h0 : ((win0_8.blk t).view.emb (ix2 r l) (0 : Fin 2) : ℕ) = 2048 * t.val + r.val := by
    blk_simp [index8 t]; show t.val * 2048 + r.val = _; omega
  have h1 : ((win0_8.blk t).view.emb (ix2 r l) (1 : Fin 2) : ℕ) = l.val := by
    blk_simp [index8 t]
  refine (out_v m c t r l).trans (Eq.trans (proj_head m c t _ _ l)
    (Target.v_at (aX m c) (aG m c) (aW m c) (aS m c) _ (tokOf t ⟨r.val / 8, by omega⟩) ⟨24 + r.val % 8, by omega⟩ l (by show 24 ≤ 24 + r.val % 8; omega)
      (by rw [h0]; show 2048 * t.val + r.val + 24 = 8 * (256 * t.val + r.val / 8) + (24 + r.val % 8); omega) h1).symm)

end Cert.KernelIdeal.Blk
-- ==== Proof.RefHost.lean ====
/- What the reference's host computes before its kernel. -/
module

public import proofs.«01_k».proof.Proof.Gen.ReferenceIdeal.Frame
public import proofs.«01_k».proof.Proof.Target
public import Idealize.ShloMosaic.Lib.Pipeline.ValueKit
public import Idealize.ShloMosaic.Lib.StableHlo.ReadAt

@[expose] public section

set_option maxRecDepth 16384

noncomputable section

namespace Cert.ReferenceIdeal.Blk

open Cert.ReferenceIdeal Cert.ReferenceIdeal.Gen Cert.Spec Idealize.ShloMosaic Idealize.ShloMosaic.TcCoe Idealize.SL.Sem

variable (m : (ℓ : Loc nD τ sig) → Buf (Elt Ideal) ℓ)

/-- The arguments. -/
abbrev aX (c : Dev nD) : Vec Ideal S2x512x4608 .bf16 := m ((c : Thread nD τ).loc main_arg0)
abbrev aG (c : Dev nD) : Vec Ideal S4608 .f32 := m ((c : Thread nD τ).loc main_arg1)
abbrev aP (c : Dev nD) : Vec Ideal S2x512 .i32 := m ((c : Thread nD τ).loc main_arg2)
abbrev aW (c : Dev nD) : Vec Ideal S4608x4096 .fp8e4m3 := m ((c : Thread nD τ).loc main_arg3)
abbrev aS (c : Dev nD) : Vec Ideal S4096 .f32 := m ((c : Thread nD τ).loc main_arg4)

theorem V_ws (c : Dev nD) (k : Fin 4096) : V m c main_v59 (ix2 0 k) = aS m c (ix1 k) := by
  unfold V
  simp only [hostOps0, hostOps0_1, hostOps0_2, hostOps0_3, hostOps0_4, List.flatten_cons, List.flatten_nil, List.append_nil, List.cons_append, List.nil_append]
  after_reads_at

/-- The normalised rows; -/
theorem V_y (c : Dev nD) (n : Fin 1024) (k : Fin 4608) :
    (show EReal from V m c main_v54 (ix2 n k)) = yv (Target.tokRow (aX m c) n) (Target.gainRow (aG m c)) k := by
  unfold V
  simp only [hostOps0, hostOps0_1, hostOps0_2, hostOps0_3, hostOps0_4, List.flatten_cons, List.flatten_nil, List.append_nil, List.cons_append, List.nil_append]
  after_reads_at
  rfl

/-- the cosines and sines of the angles; -/
theorem V_cos (c : Dev nD) (n : Fin 1024) (k : Fin 64) (l : Fin 128) (h : l.val % 64 = k.val) :
    (show EReal from V m c main_v61 (ix2 n k)) = Ideal.cos (Target.ang (aP m c) n l) := by
  obtain rfl : k = Cert.KernelIdeal.Blk.freq l := Fin.ext h.symm
  unfold V
  simp only [hostOps0, hostOps0_1, hostOps0_2, hostOps0_3, hostOps0_4, List.flatten_cons, List.flatten_nil, List.append_nil, List.cons_append, List.nil_append]
  after_reads_at
  rfl

theorem V_sin (c : Dev nD) (n : Fin 1024) (k : Fin 64) (l : Fin 128) (h : l.val % 64 = k.val) :
    (show EReal from V m c main_v63 (ix2 n k)) = Ideal.sin (Target.ang (aP m c) n l) := by
  obtain rfl : k = Cert.KernelIdeal.Blk.freq l := Fin.ext h.symm
  unfold V
  simp only [hostOps0, hostOps0_1, hostOps0_2, hostOps0_3, hostOps0_4, List.flatten_cons, List.flatten_nil, List.append_nil, List.cons_append, List.nil_append]
  after_reads_at
  rfl

end Cert.ReferenceIdeal.Blk
-- ==== Proof.RefScale.lean ====
/- The scale of every token, as the reference's host computes it, and its reciprocal: read stage by stage, each over whatever
   the stage before left. -/
module

public import proofs.«01_k».proof.Proof.RefHost

@[expose] public section

set_option maxRecDepth 16384

noncomputable section

namespace Cert.ReferenceIdeal.Blk

open Cert.ReferenceIdeal Cert.ReferenceIdeal.Gen Cert.Spec Idealize.ShloMosaic Idealize.ShloMosaic.TcCoe Idealize.SL.Sem

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-! The operations in stages: the magnitudes of the normalised rows; the largest of each row; that over 448; the candidate
    powers of two; the least that exceeds it; the rest. -/

abbrev opsA : List (HloOp τ sig (Elt Ideal)) := (hostOps0 (F := Ideal)).take 18
abbrev opsM : List (HloOp τ sig (Elt Ideal)) := ((hostOps0 (F := Ideal)).take 20).drop 18
abbrev opsR : List (HloOp τ sig (Elt Ideal)) := ((hostOps0 (F := Ideal)).take 24).drop 20
abbrev opsB : List (HloOp τ sig (Elt Ideal)) := (hostOps0 (F := Ideal)).drop 24 ++ hostOps0_1
abbrev opsD : List (HloOp τ sig (Elt Ideal)) := hostOps0_2 ++ hostOps0_3

theorem stages : List.flatten [hostOps0, hostOps0_1, hostOps0_2, hostOps0_3, hostOps0_4] = opsA ++ (opsM ++ (opsR ++ (opsB ++ (opsD ++ (hostOps0_4 (F := Ideal)))))) := rfl

/-- A power of two, as the host raises it. -/
theorem host_pow (k : Fin 252) :
    Ideal.pow (Ideal.ofBits .f32 0x40000000#32) (FloatOps.sitofp (F := Ideal) .f32 (IntOp.addi (4294967171#32) (BitVec.ofNat 32 k.val)))
      = (((2 : ℝ) ^ ((k.val : ℤ) - 125) : ℝ) : EReal) := by
  have h2 : Ideal.ofBits .f32 0x40000000#32 = ((2 : ℝ) : EReal) := by
    have h : Ideal.ofBits .f32 0x40000000#32 = P 128 := rfl
    rw [h, P_pow _ (by omega) (by omega)]; norm_num
  have hi : (IntOp.addi (4294967171#32) (BitVec.ofNat 32 k.val)).toInt = (k.val : ℤ) - 125 :=
    (by decide +kernel : ∀ k : Fin 252, (IntOp.addi (4294967171#32) (BitVec.ofNat 32 k.val)).toInt = (k.val : ℤ) - 125) k
  rw [h2]
  show Ideal.pow ((2 : ℝ) : EReal) ((((IntOp.addi (4294967171#32) (BitVec.ofNat 32 k.val)).toInt : ℝ)) : EReal) = _
  rw [hi, Ideal.pow_coe_coe]
  exact congrArg _ (Real.rpow_intCast 2 _)

variable (W : Valuation τ sig (Elt Ideal)) (b : Fin 2) (s : Fin 512)

theorem max_apply (x : FVec Ideal S2x512x4608 .f32) :
    Host.reduce FloatOps.maximumf x (constant S_ .f32 0xFF800000#32) reducesTo_S2x512x4608_S2x512_d2 h_S_ (ix2 b s)
      = Finset.univ.fold max (Ideal.ofBits .f32 0xFF800000#32) fun k : Fin 4608 => x (ix3 b s k) := by
  pointwise

theorem stageA (k : Fin 4608) : (show EReal from StableHlo.after opsA W (Proc.tc.devRef main_v14) (ix3 b s k))
    = FloatOps.absf (F := Ideal) (φ := .f32) (yv (fun k => W (Proc.tc.devRef main_arg0) (ix3 b s k)) (fun k => W (Proc.tc.devRef main_arg1) (ix1 k)) k) := by
  simp only [opsA, hostOps0, List.take]
  after_reads_at
  rfl

theorem stageM : (show FVec Ideal S2x512 .f32 from StableHlo.after opsM W (Proc.tc.devRef main_v15))
    = Host.reduce FloatOps.maximumf (show FVec Ideal S2x512x4608 .f32 from W (Proc.tc.devRef main_v14)) (constant S_ .f32 0xFF800000#32) reducesTo_S2x512x4608_S2x512_d2 h_S_ := by
  simp only [opsM, hostOps0, List.take, List.drop]
  after_reads_simp

theorem stageR : (show EReal from StableHlo.after opsR W (Proc.tc.devRef main_v18) (ix3 b s 0))
    = (show EReal from W (Proc.tc.devRef main_v15) (ix2 b s)) * Ideal.ofBits .f32 0x3B124925#32 := by
  simp only [opsR, hostOps0, List.take, List.drop]
  after_reads_at

theorem stageB (k : Fin 252) : (show EReal from StableHlo.after opsB W (Proc.tc.devRef main_v29) (ix3 b s k))
    = if (show EReal from W (Proc.tc.devRef main_v18) (ix3 b s 0)) < (((2 : ℝ) ^ ((k.val : ℤ) - 125) : ℝ) : EReal) then (((2 : ℝ) ^ ((k.val : ℤ) - 125) : ℝ) : EReal)
      else Ideal.ofBits .f32 0x7E800000#32 := by
  simp only [opsB, hostOps0, hostOps0_1, List.drop, List.cons_append, List.nil_append]
  after_reads_at
  rw [host_pow]
  rfl

theorem stageB_kept : (show EReal from StableHlo.after opsB W (Proc.tc.devRef main_v18) (ix3 b s 0)) = W (Proc.tc.devRef main_v18) (ix3 b s 0) := by
  simp only [opsB, hostOps0, hostOps0_1, List.drop, List.cons_append, List.nil_append]
  after_reads_at

theorem select_and (p q : Prop) [Decidable p] [Decidable q] (a z : EReal) :
    Scalar.select (IntOp.andi (BitVec.ofBool (decide p)) (BitVec.ofBool (decide q))) a z = if p ∧ q then a else z := by
  by_cases hp : p <;> by_cases hq : q <;> simp [hp, hq, Scalar.select, IntOp.andi]

theorem stageD : (show EReal from StableHlo.after opsD W (Proc.tc.devRef main_v37) (ix3 b s 0))
    = if Ideal.ofBits .f32 0x00800000#32 ≤ (show EReal from W (Proc.tc.devRef main_v18) (ix3 b s 0)) ∧ (show EReal from W (Proc.tc.devRef main_v18) (ix3 b s 0)) < Ideal.ofBits .f32 0x7F800000#32
      then Finset.univ.fold min (Ideal.ofBits .f32 0x7F800000#32) (fun k : Fin 252 => show EReal from W (Proc.tc.devRef main_v29) (ix3 b s k))
      else Ideal.ofBits .f32 0x3F800000#32 := by
  simp only [opsD, hostOps0_2, hostOps0_3, List.cons_append, List.nil_append]
  after_reads_at
  have h1 : (1 : EReal) = Ideal.ofBits .f32 0x3F800000#32 := P_one.symm
  rw [h1]
  exact select_and (Ideal.ofBits .f32 0x00800000#32 ≤ (show EReal from W (Proc.tc.devRef main_v18) (ix3 b s 0)))
    ((show EReal from W (Proc.tc.devRef main_v18) (ix3 b s 0)) < Ideal.ofBits .f32 0x7F800000#32) _ _

theorem stageE (n : Fin 1024) : (show EReal from StableHlo.after hostOps0_4 W (Proc.tc.devRef main_v58) (ix2 n 0))
    = W (Proc.tc.devRef main_v37) (ix3 ⟨n.val / 512, by omega⟩ ⟨n.val % 512, by omega⟩ 0) := by
  simp only [hostOps0_4]
  after_reads_at

theorem stageF (n : Fin 1024) : (show EReal from StableHlo.after hostOps0_4 W (Proc.tc.devRef main_v57) (ix2 n 0))
    = Ideal.div 1 (W (Proc.tc.devRef main_v37) (ix3 ⟨n.val / 512, by omega⟩ ⟨n.val % 512, by omega⟩ 0)) := by
  simp only [hostOps0_4]
  after_reads_at

/-- The least of the candidates that exceed `r`. -/
theorem least (r r' : EReal) (f : Fin 252 → EReal) (hr : r = r')
    (hf : ∀ k, f k = if r' < (((2 : ℝ) ^ ((k.val : ℤ) - 125) : ℝ) : EReal) then (((2 : ℝ) ^ ((k.val : ℤ) - 125) : ℝ) : EReal)
      else Ideal.ofBits .f32 0x7E800000#32) :
    (if Ideal.ofBits .f32 0x00800000#32 ≤ r ∧ r < Ideal.ofBits .f32 0x7F800000#32 then Finset.univ.fold min (Ideal.ofBits .f32 0x7F800000#32) f
      else Ideal.ofBits .f32 0x3F800000#32) = refScale r' := by
  subst hr
  rw [funext hf]
  rfl

variable (m : (ℓ : Loc nD τ sig) → Buf (Elt Ideal) ℓ)

/-- What the host holds after the choice of the power. -/
abbrev chosen (W : Valuation τ sig (Elt Ideal)) : Valuation τ sig (Elt Ideal) :=
  StableHlo.after opsD (StableHlo.after opsB (StableHlo.after opsR (StableHlo.after opsM (StableHlo.after opsA W))))

theorem chosen_v37 : (show EReal from chosen W (Proc.tc.devRef main_v37) (ix3 b s 0))
    = scale (fun k => W (Proc.tc.devRef main_arg0) (ix3 b s k)) (fun k => W (Proc.tc.devRef main_arg1) (ix1 k)) := by
  have hr : (show EReal from StableHlo.after opsR (StableHlo.after opsM (StableHlo.after opsA W)) (Proc.tc.devRef main_v18) (ix3 b s 0))
      = ratio (fun k => W (Proc.tc.devRef main_arg0) (ix3 b s k)) (fun k => W (Proc.tc.devRef main_arg1) (ix1 k)) := by
    refine (stageR _ b s).trans (congrArg (· * Ideal.ofBits .f32 0x3B124925#32) ?_)
    refine (congrFun (stageM _) (ix2 b s)).trans ((max_apply b s _).trans ?_)
    exact congrArg (fun f => Finset.univ.fold max (Ideal.ofBits .f32 0xFF800000#32) f) (funext fun k => stageA W b s k)
  have hk := (stageB_kept (StableHlo.after opsR (StableHlo.after opsM (StableHlo.after opsA W))) b s).trans hr
  have hb := fun k => (stageB (StableHlo.after opsR (StableHlo.after opsM (StableHlo.after opsA W))) b s k)
  refine (stageD _ b s).trans ((least _ _ _ hk fun k => (hb k).trans ?_).trans (refScale_eq _))
  exact congrArg (fun r : EReal => if r < (((2 : ℝ) ^ ((k.val : ℤ) - 125) : ℝ) : EReal) then (((2 : ℝ) ^ ((k.val : ℤ) - 125) : ℝ) : EReal)
    else Ideal.ofBits .f32 0x7E800000#32) hr

/-- The scales; -/
theorem V_scale (c : Dev nD) (n : Fin 1024) :
    (show EReal from V m c main_v58 (ix2 n 0)) = scale (Target.tokRow (aX m c) n) (Target.gainRow (aG m c)) := by
  unfold V
  rw [stages, after_append, after_append, after_append, after_append, after_append]
  exact (stageE _ n).trans (chosen_v37 _ _ _)

/-- their reciprocals. -/
theorem V_inv (c : Dev nD) (n : Fin 1024) :
    (show EReal from V m c main_v57 (ix2 n 0)) = factor (Target.tokRow (aX m c) n) (Target.gainRow (aG m c)) := by
  unfold V
  rw [stages, after_append, after_append, after_append, after_append, after_append]
  exact (stageF _ n).trans ((congrArg (Ideal.div 1) (chosen_v37 _ _ _)).trans (factor_def _ _).symm)

end Cert.ReferenceIdeal.Blk
-- ==== Proof.RefBody.lean ====
/- The reference's kernel at an index. -/
module

public import proofs.«01_k».proof.Proof.RefScale

@[expose] public section

set_option maxRecDepth 16384

noncomputable section

namespace Cert.ReferenceIdeal.Blk

open Cert.ReferenceIdeal Cert.ReferenceIdeal.Gen Cert.Spec Idealize.ShloMosaic Idealize.ShloMosaic.TcCoe Idealize.SL.Sem
open Cert.KernelIdeal.Blk (colOf)

variable (y : Vec Ideal S1024x4608 .f32) (inv sc : Vec Ideal S1024x1 .f32) (W : Vec Ideal S4608x4096 .fp8e4m3) (ws : Vec Ideal S1x4096 .f32)
  (t1 t2 : FVec Ideal S1024x24x64 .f32) (c s : FVec Ideal S1024x1x64 .f32)

theorem pay5_apply (n : Fin 1024) (k : Fin 4608) : k0_pay5 y inv (ix2 n k) = min (Ideal.ofBits .f32 0x43E00000#32) (max (Ideal.ofBits .f32 0xC3E00000#32) (y (ix2 n k) * inv (ix2 n 0))) := by
  pointwise [k0_pay5]

theorem pay6_apply (n : Fin 1024) : k0_pay6 sc (ix2 n 0) = sc (ix2 n 0) := by
  pointwise [k0_pay6]

theorem pay7_apply (n : Fin 1024) (h : Fin 32) (l : Fin 128) : k0_pay7 y inv W sc ws (ix3 n h l)
    = (∑ k, k0_pay5 y inv (ix2 n k) * W (ix2 k (colOf h l))) * sc (ix2 n 0) * ws (ix2 0 (colOf h l)) := by
  pointwise [k0_pay7]
  have e : (⟨h.val * 128 + l.val, by omega⟩ : Fin 4096) = colOf h l := Fin.ext (by show h.val * 128 + l.val = 128 * h.val + l.val; omega)
  rw [e]

theorem pay1_apply (n : Fin 1024) (h : Fin 24) (l : Fin 128) : k0_pay1 t1 t2 c s (ix3 n h l)
    = if hl : l.val < 64 then t1 (ix3 n h ⟨l.val, hl⟩) * c (ix3 n 0 ⟨l.val, hl⟩) - t2 (ix3 n h ⟨l.val, hl⟩) * s (ix3 n 0 ⟨l.val, hl⟩)
      else t2 (ix3 n h ⟨l.val - 64, by omega⟩) * c (ix3 n 0 ⟨l.val - 64, by omega⟩) + t1 (ix3 n h ⟨l.val - 64, by omega⟩) * s (ix3 n 0 ⟨l.val - 64, by omega⟩) := by
  pointwise [k0_pay1]

theorem pay2_apply (r : Fin 16384) (l : Fin 128) : k0_pay2 t1 t2 c s (ix2 r l) = k0_pay1 t1 t2 c s (ix3 ⟨r.val / 16, by omega⟩ ⟨r.val % 16, by omega⟩ l) := by
  pointwise [k0_pay2]

theorem pay3_apply (r : Fin 8192) (l : Fin 128) : k0_pay3 t1 t2 c s (ix2 r l) = k0_pay1 t1 t2 c s (ix3 ⟨r.val / 8, by omega⟩ ⟨16 + r.val % 8, by omega⟩ l) := by
  pointwise [k0_pay3]

theorem pay4_apply (v : FVec Ideal S1024x32x128 .f32) (r : Fin 8192) (l : Fin 128) : k0_pay4 v (ix2 r l) = v (ix3 ⟨r.val / 8, by omega⟩ ⟨24 + r.val % 8, by omega⟩ l) := by
  pointwise [k0_pay4]

theorem pay9_apply (n : Fin 1024) (h : Fin 24) (l : Fin 64) : k0_pay9 y inv W sc ws (ix3 n h l) = k0_pay7 y inv W sc ws (ix3 n ⟨h.val, by omega⟩ ⟨l.val, by omega⟩) := by
  pointwise [k0_pay9, k0_pay8]
theorem pay10_apply (n : Fin 1024) (h : Fin 24) (l : Fin 64) : k0_pay10 y inv W sc ws (ix3 n h l) = k0_pay7 y inv W sc ws (ix3 n ⟨h.val, by omega⟩ ⟨64 + l.val, by omega⟩) := by
  pointwise [k0_pay10, k0_pay8]
theorem pay11_apply (v : Vec Ideal S1024x64 .f32) (n : Fin 1024) (l : Fin 64) : k0_pay11 v (ix3 n 0 l) = v (ix2 n l) := by
  pointwise [k0_pay11]
theorem pay12_apply (v : Vec Ideal S1024x64 .f32) (n : Fin 1024) (l : Fin 64) : k0_pay12 v (ix3 n 0 l) = v (ix2 n l) := by
  pointwise [k0_pay12]

end Cert.ReferenceIdeal.Blk
-- ==== Proof.RefBlocks.lean ====
/- The reference's grid has one point, and there every block is the whole of its array. -/
module

public import proofs.«01_k».proof.Proof.RefBody

@[expose] public section

set_option maxRecDepth 16384

noncomputable section

namespace Cert.ReferenceIdeal.Blk

open Cert.ReferenceIdeal Cert.ReferenceIdeal.Gen Cert.Spec Idealize.ShloMosaic Idealize.ShloMosaic.TcCoe Idealize.SL.Sem

variable (m : (ℓ : Loc nD τ sig) → Buf (Elt Ideal) ℓ)

theorem zero_block (a : Fin 2) (k n : ℕ) : (![0, 0] : Fin 2 → ℕ) a * k + n = n := by
  have h : (![0, 0] : Fin 2 → ℕ) a = 0 := by fin_cases a <;> rfl
  rw [h, Nat.zero_mul, Nat.zero_add]

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)

theorem emb0 (t : Fin cfg0.N) (y : S1024x4608.Idx) : (win0_0.blk t).view.emb y = y := by
  refine funext fun a => Fin.ext ?_
  blk_simp [index0 t]
  exact zero_block _ _ _
theorem emb1 (t : Fin cfg0.N) (y : S1024x1.Idx) : (win0_1.blk t).view.emb y = y := by
  refine funext fun a => Fin.ext ?_
  blk_simp [index1 t]
  exact zero_block _ _ _
theorem emb2 (t : Fin cfg0.N) (y : S1024x1.Idx) : (win0_2.blk t).view.emb y = y := by
  refine funext fun a => Fin.ext ?_
  blk_simp [index2 t]
  exact zero_block _ _ _
theorem emb3 (t : Fin cfg0.N) (y : S4608x4096.Idx) : (win0_3.blk t).view.emb y = y := by
  refine funext fun a => Fin.ext ?_
  blk_simp [index3 t]
  exact zero_block _ _ _
theorem emb4 (t : Fin cfg0.N) (y : S1x4096.Idx) : (win0_4.blk t).view.emb y = y := by
  refine funext fun a => Fin.ext ?_
  blk_simp [index4 t]
  exact zero_block _ _ _
theorem emb5 (t : Fin cfg0.N) (y : S1024x64.Idx) : (win0_5.blk t).view.emb y = y := by
  refine funext fun a => Fin.ext ?_
  blk_simp [index5 t]
  exact zero_block _ _ _
theorem emb6 (t : Fin cfg0.N) (y : S1024x64.Idx) : (win0_6.blk t).view.emb y = y := by
  refine funext fun a => Fin.ext ?_
  blk_simp [index6 t]
  exact zero_block _ _ _
theorem emb7 (t : Fin cfg0.N) (y : S16384x128.Idx) : (win0_7.blk t).view.emb y = y := by
  refine funext fun a => Fin.ext ?_
  blk_simp [index7 t]
  exact zero_block _ _ _
theorem emb8 (t : Fin cfg0.N) (y : S8192x128.Idx) : (win0_8.blk t).view.emb y = y := by
  refine funext fun a => Fin.ext ?_
  blk_simp [index8 t]
  exact zero_block _ _ _
theorem emb9 (t : Fin cfg0.N) (y : S8192x128.Idx) : (win0_9.blk t).view.emb y = y := by
  refine funext fun a => Fin.ext ?_
  blk_simp [index9 t]
  exact zero_block _ _ _
theorem emb10 (t : Fin cfg0.N) (y : S1024x4608.Idx) : (win0_10.blk t).view.emb y = y := by
  refine funext fun a => Fin.ext ?_
  blk_simp [index10 t]
  exact zero_block _ _ _
theorem emb11 (t : Fin cfg0.N) (y : S1024x1.Idx) : (win0_11.blk t).view.emb y = y := by
  refine funext fun a => Fin.ext ?_
  blk_simp [index11 t]
  exact zero_block _ _ _

/-! The operands. -/

theorem read0 (U : Vec Ideal S1024x4608 .f32) (t : Fin cfg0.N) (y : S1024x4608.Idx) : (win0_0.blk t).view.read (Elt Ideal) U y = U y := by
  blk_simp
  rw [emb0]
theorem blk0 (U : Vec Ideal S1024x4608 .f32) (t : Fin cfg0.N) : (win0_0.blk t).view.read (Elt Ideal) U = U :=
  funext fun (y : S1024x4608.Idx) => read0 U t y
theorem iblk0_eq (c : Dev nD) (t : Fin cfg0.N) : iblk m c 0 t = V m c main_v54 := blk0 (V m c main_v54) t

theorem read1 (U : Vec Ideal S1024x1 .f32) (t : Fin cfg0.N) (y : S1024x1.Idx) : (win0_1.blk t).view.read (Elt Ideal) U y = U y := by
  blk_simp
  rw [emb1]
theorem blk1 (U : Vec Ideal S1024x1 .f32) (t : Fin cfg0.N) : (win0_1.blk t).view.read (Elt Ideal) U = U :=
  funext fun (y : S1024x1.Idx) => read1 U t y
theorem iblk1_eq (c : Dev nD) (t : Fin cfg0.N) : iblk m c 1 t = V m c main_v57 := blk1 (V m c main_v57) t

theorem read2 (U : Vec Ideal S1024x1 .f32) (t : Fin cfg0.N) (y : S1024x1.Idx) : (win0_2.blk t).view.read (Elt Ideal) U y = U y := by
  blk_simp
  rw [emb2]
theorem blk2 (U : Vec Ideal S1024x1 .f32) (t : Fin cfg0.N) : (win0_2.blk t).view.read (Elt Ideal) U = U :=
  funext fun (y : S1024x1.Idx) => read2 U t y
theorem iblk2_eq (c : Dev nD) (t : Fin cfg0.N) : iblk m c 2 t = V m c main_v58 := blk2 (V m c main_v58) t

theorem read3 (U : Vec Ideal S4608x4096 .fp8e4m3) (t : Fin cfg0.N) (y : S4608x4096.Idx) : (win0_3.blk t).view.read (Elt Ideal) U y = U y := by
  blk_simp
  rw [emb3]
theorem blk3 (U : Vec Ideal S4608x4096 .fp8e4m3) (t : Fin cfg0.N) : (win0_3.blk t).view.read (Elt Ideal) U = U :=
  funext fun (y : S4608x4096.Idx) => read3 U t y
theorem iblk3_eq (c : Dev nD) (t : Fin cfg0.N) : iblk m c 3 t = V m c main_arg3 := blk3 (V m c main_arg3) t

theorem read4 (U : Vec Ideal S1x4096 .f32) (t : Fin cfg0.N) (y : S1x4096.Idx) : (win0_4.blk t).view.read (Elt Ideal) U y = U y := by
  blk_simp
  rw [emb4]
theorem blk4 (U : Vec Ideal S1x4096 .f32) (t : Fin cfg0.N) : (win0_4.blk t).view.read (Elt Ideal) U = U :=
  funext fun (y : S1x4096.Idx) => read4 U t y
theorem iblk4_eq (c : Dev nD) (t : Fin cfg0.N) : iblk m c 4 t = V m c main_v59 := blk4 (V m c main_v59) t

theorem read5 (U : Vec Ideal S1024x64 .f32) (t : Fin cfg0.N) (y : S1024x64.Idx) : (win0_5.blk t).view.read (Elt Ideal) U y = U y := by
  blk_simp
  rw [emb5]
theorem blk5 (U : Vec Ideal S1024x64 .f32) (t : Fin cfg0.N) : (win0_5.blk t).view.read (Elt Ideal) U = U :=
  funext fun (y : S1024x64.Idx) => read5 U t y
theorem iblk5_eq (c : Dev nD) (t : Fin cfg0.N) : iblk m c 5 t = V m c main_v61 := blk5 (V m c main_v61) t

theorem read6 (U : Vec Ideal S1024x64 .f32) (t : Fin cfg0.N) (y : S1024x64.Idx) : (win0_6.blk t).view.read (Elt Ideal) U y = U y := by
  blk_simp
  rw [emb6]
theorem blk6 (U : Vec Ideal S1024x64 .f32) (t : Fin cfg0.N) : (win0_6.blk t).view.read (Elt Ideal) U = U :=
  funext fun (y : S1024x64.Idx) => read6 U t y
theorem iblk6_eq (c : Dev nD) (t : Fin cfg0.N) : iblk m c 6 t = V m c main_v63 := blk6 (V m c main_v63) t

end Cert.ReferenceIdeal.Blk
-- ==== Proof.RefArrays.lean ====
/- The reference's five arrays after the run, as functions of the arguments. -/
module

public import proofs.«01_k».proof.Proof.RefBlocks

@[expose] public section

set_option maxRecDepth 16384

noncomputable section

namespace Cert.ReferenceIdeal.Blk

open Cert.ReferenceIdeal Cert.ReferenceIdeal.Gen Cert.Spec Idealize.ShloMosaic Idealize.ShloMosaic.TcCoe Idealize.SL.Sem
open Cert.KernelIdeal.Blk (colOf partner freq)

variable (m : (ℓ : Loc nD τ sig) → Buf (Elt Ideal) ℓ)

/-- The codes, as the kernel body finds them. -/
theorem codes_V (c : Dev nD) (n : Fin 1024) (k : Fin 4608) : k0_pay5 (V m c main_v54) (V m c main_v57) (ix2 n k)
    = code (Target.tokRow (aX m c) n) (Target.gainRow (aG m c)) k := by
  rw [pay5_apply, code]
  exact congrArg (min _) (congrArg (max _) (congrArg₂ (· * ·) (V_y m c n k) (V_inv m c n)))

/-- A head before rotation. -/
theorem head_V (c : Dev nD) (n : Fin 1024) (h : Fin 32) (l : Fin 128) :
    k0_pay7 (V m c main_v54) (V m c main_v57) (V m c main_arg3) (V m c main_v58) (V m c main_v59) (ix3 n h l)
      = Target.head (aX m c) (aG m c) (aW m c) (aS m c) n h l := by
  rw [pay7_apply, V_ws, V_main_arg3, Target.head, proj]
  refine congrArg₂ (· * ·) (congrArg₂ (· * ·) (Finset.sum_congr rfl fun k _ => congrArg (· * _) (codes_V m c n k)) (V_scale m c n)) rfl

abbrev lowV (c : Dev nD) := k0_pay9 (V m c main_v54) (V m c main_v57) (V m c main_arg3) (V m c main_v58) (V m c main_v59)
abbrev highV (c : Dev nD) := k0_pay10 (V m c main_v54) (V m c main_v57) (V m c main_arg3) (V m c main_v58) (V m c main_v59)
abbrev cosV (c : Dev nD) := k0_pay11 (V m c main_v61)
abbrev sinV (c : Dev nD) := k0_pay12 (V m c main_v63)

theorem low_V (c : Dev nD) (n : Fin 1024) (h : Fin 24) (l : Fin 64) : lowV m c (ix3 n h l)
    = Target.head (aX m c) (aG m c) (aW m c) (aS m c) n ⟨h.val, by omega⟩ ⟨l.val, by omega⟩ :=
  (pay9_apply _ _ _ _ _ n h l).trans (head_V m c n _ _)
theorem high_V (c : Dev nD) (n : Fin 1024) (h : Fin 24) (l : Fin 64) : highV m c (ix3 n h l)
    = Target.head (aX m c) (aG m c) (aW m c) (aS m c) n ⟨h.val, by omega⟩ ⟨64 + l.val, by omega⟩ :=
  (pay10_apply _ _ _ _ _ n h l).trans (head_V m c n _ _)
theorem cos_V (c : Dev nD) (n : Fin 1024) (k : Fin 64) (l : Fin 128) (h : l.val % 64 = k.val) :
    cosV m c (ix3 n 0 k) = Ideal.cos (Target.ang (aP m c) n l) :=
  (pay11_apply _ n k).trans (V_cos m c n k l h)
theorem sin_V (c : Dev nD) (n : Fin 1024) (k : Fin 64) (l : Fin 128) (h : l.val % 64 = k.val) :
    sinV m c (ix3 n 0 k) = Ideal.sin (Target.ang (aP m c) n l) :=
  (pay12_apply _ n k).trans (V_sin m c n k l h)

/-- A head rotated: its halves exchange places where the second of a pair is wanted. -/
theorem turned_V (c : Dev nD) (n : Fin 1024) (h : Fin 24) (l : Fin 128) : k0_pay1 (lowV m c) (highV m c) (cosV m c) (sinV m c) (ix3 n h l)
    = Target.turned (aX m c) (aG m c) (aP m c) (aW m c) (aS m c) n ⟨h.val, by omega⟩ l := by
  refine (pay1_apply _ _ _ _ n h l).trans ?_
  rw [Target.turned, rot]
  by_cases hl : l.val < 64
  · have e : partner l = ⟨64 + l.val, by omega⟩ := Fin.ext (by show (l.val + 64) % 128 = 64 + l.val; omega)
    have hm : l.val % 64 = l.val := Nat.mod_eq_of_lt hl
    rw [dif_pos hl, if_pos hl, e]
    exact congrArg₂ (· - ·) (congrArg₂ (· * ·) (low_V m c n h ⟨l.val, hl⟩) (cos_V m c n ⟨l.val, hl⟩ l hm))
      (congrArg₂ (· * ·) (high_V m c n h ⟨l.val, hl⟩) (sin_V m c n ⟨l.val, hl⟩ l hm))
  · have hk : l.val - 64 < 64 := by omega
    have hm : l.val % 64 = l.val - 64 := by omega
    have e : partner l = ⟨l.val - 64, by omega⟩ := Fin.ext (by show (l.val + 64) % 128 = l.val - 64; omega)
    have e' : (⟨64 + (l.val - 64), by omega⟩ : Fin 128) = l := Fin.ext (by show 64 + (l.val - 64) = l.val; omega)
    have hi := (high_V m c n h ⟨l.val - 64, hk⟩).trans (congrArg (Target.head (aX m c) (aG m c) (aW m c) (aS m c) n ⟨h.val, by omega⟩) e')
    rw [dif_neg hl, if_neg hl, e]
    exact congrArg₂ (· + ·) (congrArg₂ (· * ·) hi (cos_V m c n ⟨l.val - 64, hk⟩ l hm))
      (congrArg₂ (· * ·) (low_V m c n h ⟨l.val - 64, hk⟩) (sin_V m c n ⟨l.val - 64, hk⟩ l hm))

theorem arr_codes (c : Dev nD) : (dats m 0 c).arrAt 10 cfg0.N = Target.codes (aX m c) (aG m c) := by
  refine (dats m 0 c).arrAt_eq_of_covers 10 _ (by decide +kernel) fun t hf y => ?_
  blk_simp
  rw [after0_10]
  unfold_out out0_10
  frame_out
  revert y
  intro (y : S1024x4608.Idx)
  obtain ⟨r, l, rfl⟩ : ∃ (r : Fin 1024) (l : Fin 4608), y = ix2 r l := ⟨y 0, y 1, eq_ix2 y⟩
  refine Eq.trans ?_ (congrArg (Target.codes (aX m c) (aG m c)) (emb10 t (ix2 r l))).symm
  rw [iblk0_eq, iblk1_eq]
  exact codes_V m c r l

theorem arr_scales (c : Dev nD) : (dats m 0 c).arrAt 11 cfg0.N = Target.scales (aX m c) (aG m c) := by
  refine (dats m 0 c).arrAt_eq_of_covers 11 _ (by decide +kernel) fun t hf y => ?_
  blk_simp
  rw [after0_11]
  unfold_out out0_11
  frame_out
  revert y
  intro (y : S1024x1.Idx)
  obtain ⟨r, l, rfl⟩ : ∃ (r : Fin 1024) (l : Fin 1), y = ix2 r l := ⟨y 0, y 1, eq_ix2 y⟩
  refine Eq.trans ?_ (congrArg (Target.scales (aX m c) (aG m c)) (emb11 t (ix2 r l))).symm
  obtain rfl : l = 0 := Subsingleton.elim _ _
  rw [iblk2_eq, pay6_apply]
  exact V_scale m c r

theorem arr_q (c : Dev nD) : (dats m 0 c).arrAt 7 cfg0.N = Target.q (aX m c) (aG m c) (aP m c) (aW m c) (aS m c) := by
  refine (dats m 0 c).arrAt_eq_of_covers 7 _ (by decide +kernel) fun t hf y => ?_
  blk_simp
  rw [after0_7]
  unfold_out out0_7
  frame_out
  revert y
  intro (y : S16384x128.Idx)
  obtain ⟨r, l, rfl⟩ : ∃ (r : Fin 16384) (l : Fin 128), y = ix2 r l := ⟨y 0, y 1, eq_ix2 y⟩
  refine Eq.trans ?_ (congrArg (Target.q (aX m c) (aG m c) (aP m c) (aW m c) (aS m c)) (emb7 t (ix2 r l))).symm
  rw [iblk0_eq, iblk1_eq, iblk2_eq, iblk3_eq, iblk4_eq, iblk5_eq, iblk6_eq, pay2_apply]
  exact turned_V m c ⟨r.val / 16, by omega⟩ ⟨r.val % 16, by omega⟩ l

theorem arr_k (c : Dev nD) : (dats m 0 c).arrAt 8 cfg0.N = Target.k (aX m c) (aG m c) (aP m c) (aW m c) (aS m c) := by
  refine (dats m 0 c).arrAt_eq_of_covers 8 _ (by decide +kernel) fun t hf y => ?_
  blk_simp
  rw [after0_8]
  unfold_out out0_8
  frame_out
  revert y
  intro (y : S8192x128.Idx)
  obtain ⟨r, l, rfl⟩ : ∃ (r : Fin 8192) (l : Fin 128), y = ix2 r l := ⟨y 0, y 1, eq_ix2 y⟩
  refine Eq.trans ?_ (congrArg (Target.k (aX m c) (aG m c) (aP m c) (aW m c) (aS m c)) (emb8 t (ix2 r l))).symm
  rw [iblk0_eq, iblk1_eq, iblk2_eq, iblk3_eq, iblk4_eq, iblk5_eq, iblk6_eq, pay3_apply]
  exact turned_V m c ⟨r.val / 8, by omega⟩ ⟨16 + r.val % 8, by omega⟩ l

theorem arr_v (c : Dev nD) : (dats m 0 c).arrAt 9 cfg0.N = Target.v (aX m c) (aG m c) (aW m c) (aS m c) := by
  refine (dats m 0 c).arrAt_eq_of_covers 9 _ (by decide +kernel) fun t hf y => ?_
  blk_simp
  rw [after0_9]
  unfold_out out0_9
  frame_out
  revert y
  intro (y : S8192x128.Idx)
  obtain ⟨r, l, rfl⟩ : ∃ (r : Fin 8192) (l : Fin 128), y = ix2 r l := ⟨y 0, y 1, eq_ix2 y⟩
  refine Eq.trans ?_ (congrArg (Target.v (aX m c) (aG m c) (aW m c) (aS m c)) (emb9 t (ix2 r l))).symm
  rw [iblk0_eq, iblk1_eq, iblk2_eq, iblk3_eq, iblk4_eq, pay4_apply]
  exact head_V m c ⟨r.val / 8, by omega⟩ ⟨24 + r.val % 8, by omega⟩ l

end Cert.ReferenceIdeal.Blk
-- ==== Proof.Algebraic.lean ====
/- Both programs end with the same five arrays, as functions of the arguments. -/
module

public import proofs.«01_k».proof.Defs
public import proofs.«01_k».proof.Proof.Arrays
public import proofs.«01_k».proof.Proof.RefArrays
public import proofs.«01_k».proof.Proof.Gen.KernelIdeal.Value
public import proofs.«01_k».proof.Proof.Gen.ReferenceIdeal.Value

@[expose] public section

set_option maxRecDepth 16384

noncomputable section

namespace Cert.Proof

open Idealize.ShloMosaic Idealize.ShloMosaic.TcCoe Idealize.SL.Sem

/-- What the kernel leaves. -/
theorem run_KernelIdeal (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v14_0) = Target.q (KernelIdeal.Blk.aX m c) (KernelIdeal.Blk.aG m c) (KernelIdeal.Blk.aP m c) (KernelIdeal.Blk.aW m c) (KernelIdeal.Blk.aS m c)
      ∧ r.2.mem ((c.tc : Thread KernelIdeal.nD KernelIdeal.τ).loc KernelIdeal.main_v14_1) = Target.k (KernelIdeal.Blk.aX m c) (KernelIdeal.Blk.aG m c) (KernelIdeal.Blk.aP m c) (KernelIdeal.Blk.aW m c) (KernelIdeal.Blk.aS m c)
      ∧ r.2.mem ((c.tc : Thread KernelIdeal.nD KernelIdeal.τ).loc KernelIdeal.main_v14_2) = Target.v (KernelIdeal.Blk.aX m c) (KernelIdeal.Blk.aG m c) (KernelIdeal.Blk.aW m c) (KernelIdeal.Blk.aS m c)
      ∧ r.2.mem ((c.tc : Thread KernelIdeal.nD KernelIdeal.τ).loc KernelIdeal.main_v14_3) = Target.codes (KernelIdeal.Blk.aX m c) (KernelIdeal.Blk.aG m c)
      ∧ r.2.mem ((c.tc : Thread KernelIdeal.nD KernelIdeal.τ).loc KernelIdeal.main_v14_4) = Target.scales (KernelIdeal.Blk.aX m c) (KernelIdeal.Blk.aG m c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)) :=
  (θ_run KernelIdeal.defs _ _).mono (fun _ h c => by
    obtain ⟨h0, h1, h2, h3, h4, hr⟩ := h c
    rw [KernelIdeal.Blk.arr_q] at h0
    rw [KernelIdeal.Blk.arr_k] at h1
    rw [KernelIdeal.Blk.arr_v] at h2
    rw [KernelIdeal.Blk.arr_codes] at h3
    rw [KernelIdeal.Blk.arr_scales] at h4
    exact ⟨h0, h1, h2, h3, h4, hr⟩)
    (KernelIdeal.Value.run_blocks m ρ)

/-- What the reference leaves. -/
theorem run_ReferenceIdeal (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v64_0) = Target.q (ReferenceIdeal.Blk.aX m c) (ReferenceIdeal.Blk.aG m c) (ReferenceIdeal.Blk.aP m c) (ReferenceIdeal.Blk.aW m c) (ReferenceIdeal.Blk.aS m c)
      ∧ r.2.mem ((c.tc : Thread ReferenceIdeal.nD ReferenceIdeal.τ).loc ReferenceIdeal.main_v64_1) = Target.k (ReferenceIdeal.Blk.aX m c) (ReferenceIdeal.Blk.aG m c) (ReferenceIdeal.Blk.aP m c) (ReferenceIdeal.Blk.aW m c) (ReferenceIdeal.Blk.aS m c)
      ∧ r.2.mem ((c.tc : Thread ReferenceIdeal.nD ReferenceIdeal.τ).loc ReferenceIdeal.main_v64_2) = Target.v (ReferenceIdeal.Blk.aX m c) (ReferenceIdeal.Blk.aG m c) (ReferenceIdeal.Blk.aW m c) (ReferenceIdeal.Blk.aS m c)
      ∧ r.2.mem ((c.tc : Thread ReferenceIdeal.nD ReferenceIdeal.τ).loc ReferenceIdeal.main_v64_3) = Target.codes (ReferenceIdeal.Blk.aX m c) (ReferenceIdeal.Blk.aG m c)
      ∧ r.2.mem ((c.tc : Thread ReferenceIdeal.nD ReferenceIdeal.τ).loc ReferenceIdeal.main_v64_4) = Target.scales (ReferenceIdeal.Blk.aX m c) (ReferenceIdeal.Blk.aG m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)) :=
  (θ_run ReferenceIdeal.defs _ _).mono (fun _ h c => by
    obtain ⟨h0, h1, h2, h3, h4, hr⟩ := h c
    rw [ReferenceIdeal.Blk.arr_q] at h0
    rw [ReferenceIdeal.Blk.arr_k] at h1
    rw [ReferenceIdeal.Blk.arr_v] at h2
    rw [ReferenceIdeal.Blk.arr_codes] at h3
    rw [ReferenceIdeal.Blk.arr_scales] at h4
    exact ⟨h0, h1, h2, h3, h4, hr⟩)
    (ReferenceIdeal.Value.run_blocks m ρ)

theorem algebraic : Cert.algebraic_KernelIdeal_ReferenceIdeal := by
  intro m ρ m' ρ' _ hag
  refine ⟨fun c => Target.q (KernelIdeal.Blk.aX m c) (KernelIdeal.Blk.aG m c) (KernelIdeal.Blk.aP m c) (KernelIdeal.Blk.aW m c) (KernelIdeal.Blk.aS m c),
    fun c => Target.k (KernelIdeal.Blk.aX m c) (KernelIdeal.Blk.aG m c) (KernelIdeal.Blk.aP m c) (KernelIdeal.Blk.aW m c) (KernelIdeal.Blk.aS m c),
    fun c => Target.v (KernelIdeal.Blk.aX m c) (KernelIdeal.Blk.aG m c) (KernelIdeal.Blk.aW m c) (KernelIdeal.Blk.aS m c),
    fun c => Target.codes (KernelIdeal.Blk.aX m c) (KernelIdeal.Blk.aG m c),
    fun c => Target.scales (KernelIdeal.Blk.aX m c) (KernelIdeal.Blk.aG m c), run_KernelIdeal m ρ, ?_⟩
  refine (θ_run ReferenceIdeal.defs _ _).mono (fun _ h c => ?_) (run_ReferenceIdeal m' ρ')
  have e0 : ReferenceIdeal.Blk.aX m' c = KernelIdeal.Blk.aX m c := (hag c).1
  have e1 : ReferenceIdeal.Blk.aG m' c = KernelIdeal.Blk.aG m c := (hag c).2.1
  have e2 : ReferenceIdeal.Blk.aP m' c = KernelIdeal.Blk.aP m c := (hag c).2.2.1
  have e3 : ReferenceIdeal.Blk.aW m' c = KernelIdeal.Blk.aW m c := (hag c).2.2.2.1
  have e4 : ReferenceIdeal.Blk.aS m' c = KernelIdeal.Blk.aS m c := (hag c).2.2.2.2
  have hc := h c
  rw [e0, e1, e2, e3, e4] at hc
  exact hc

end Cert.Proof
-- ==== Proof.lean ====
/- The certificate: the three frames as generated, the idealized kernel's rewritings (Proof/Preserves.lean), and the equality
   of the five results over the extended reals (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  preserves, algebraic⟩

end Cert.Proof

end
